-- ==== Defs.lean ====
def Pre_KernelIdeal (m : (ℓ : Loc Cert.KernelIdeal.nD Cert.KernelIdeal.τ Cert.KernelIdeal.sig) → Buf (Elt Ideal) ℓ) : Prop :=
  True

def Pre_KernelIdeal_proper_boxes [hPre_proper_boxes : Cert.Pre_proper_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_proper_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_boxes [hPre_proper_boxes : Cert.Pre_proper_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_proper_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_proper_boxes [hKernelIdeal : Cert.KernelIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_proper_boxes [hReferenceIdeal : Cert.ReferenceIdeal.Facts] [hPre_proper_boxes : Cert.Pre_proper_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_proper_boxes [hKernelIdeal : Cert.KernelIdeal.Facts] [hReferenceIdeal : Cert.ReferenceIdeal.Facts] [hPre_proper_boxes : Cert.Pre_proper_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_proper_boxes : Cert.Pre_proper_boxes.Facts),
    quiescent_KernelIdeal (hKernelIdeal := hKernelIdeal)
    ∧ quiescent_KernelIdeal_pre_proper_boxes (hKernelIdeal := hKernelIdeal) (hPre_proper_boxes := hPre_proper_boxes)
    ∧ quiescent_ReferenceIdeal (hReferenceIdeal := hReferenceIdeal)
    ∧ quiescent_ReferenceIdeal_pre_proper_boxes (hReferenceIdeal := hReferenceIdeal) (hPre_proper_boxes := hPre_proper_boxes)
    ∧ algebraic_KernelIdeal_ReferenceIdeal_pre_proper_boxes (hKernelIdeal := hKernelIdeal) (hReferenceIdeal := hReferenceIdeal) (hPre_proper_boxes := hPre_proper_boxes)
-- ==== Pre_proper_boxes.lean ====
abbrev S5000x4 : Shape := ⟨2, ![5000, 4]⟩
abbrev S5000 : Shape := ⟨1, ![5000]⟩
abbrev S_ : Shape := ⟨0, ![]⟩
abbrev S5000x1 : Shape := ⟨2, ![5000, 1]⟩

class Facts : Prop where
  bcast_S_S5000x4 : S_.BroadcastsInDim S5000x4 (![] : Fin 0 → Fin S5000x4.rank)
  slices_S5000x4_S5000x1_0_2 : S5000x4.Slices ![0, 2] S5000x1
  shapeCasts_S5000x1_S5000 : S5000x1.ShapeCasts S5000
  slices_S5000x4_S5000x1_0_0 : S5000x4.Slices ![0, 0] S5000x1
  bcast_S_S5000 : S_.BroadcastsInDim S5000 (![] : Fin 0 → Fin S5000.rank)
  slices_S5000x4_S5000x1_0_3 : S5000x4.Slices ![0, 3] S5000x1
  slices_S5000x4_S5000x1_0_1 : S5000x4.Slices ![0, 1] S5000x1

variable [Facts]

def fn_part1 {F : FTy → Type} [FloatOps F] (main_arg1 : FVec F S5000 .f32) (main_v1 : IVec S5000x4 1) (main_v3 : IVec S5000x4 1) (main_v10 : IVec S5000 1) (main_v17 : IVec S5000 1) (main_v18 : FVec F S5000 .f32) : IVec S5000x4 1 × IVec S5000x4 1 × IVec S5000 1 × IVec S5000 1 × IVec S5000 1 :=
  let main_v19 : IVec S5000 1 := cmpf .oge main_arg1 main_v18
  (main_v1, main_v3, main_v10, main_v17, main_v19)

def fn {F : FTy → Type} [FloatOps F] (main_arg0 : FVec F S5000x4 .f32) (main_arg1 : FVec F S5000 .f32) : IVec S5000x4 1 × IVec S5000x4 1 × IVec S5000 1 × IVec S5000 1 × IVec S5000 1 :=
  let main_cst : FVec F S_ .f32 := constant S_ .f32 0xF149F2CA#32
  let main_v0 : FVec F S5000x4 .f32 := broadcastInDim S5000x4 ![] bcast_S_S5000x4 main_cst
  let main_v1 : IVec S5000x4 1 := cmpf .oge main_arg0 main_v0
  let main_cst_0 : FVec F S_ .f32 := constant S_ .f32 0x7149F2CA#32
  let main_v2 : FVec F S5000x4 .f32 := broadcastInDim S5000x4 ![] bcast_S_S5000x4 main_cst_0
  let main_v3 : IVec S5000x4 1 := cmpf .ole main_arg0 main_v2
  let main_v4 : FVec F S5000x1 .f32 := (extractStridedSlice S5000x1 ![0, 2] · slices_S5000x4_S5000x1_0_2) main_arg0
  let main_v5 : FVec F S5000 .f32 := shapeCast S5000 main_v4 shapeCasts_S5000x1_S5000
  let main_v6 : FVec F S5000x1 .f32 := (extractStridedSlice S5000x1 ![0, 0] · slices_S5000x4_S5000x1_0_0) main_arg0
  let main_v7 : FVec F S5000 .f32 := shapeCast S5000 main_v6 shapeCasts_S5000x1_S5000
  let main_v8 : FVec F S5000 .f32 := subf main_v5 main_v7
  let main_cst_1 : FVec F S_ .f32 := constant S_ .f32 0x38800000#32
  let main_v9 : FVec F S5000 .f32 := broadcastInDim S5000 ![] bcast_S_S5000 main_cst_1
  let main_v10 : IVec S5000 1 := cmpf .oge main_v8 main_v9
  let main_v11 : FVec F S5000x1 .f32 := (extractStridedSlice S5000x1 ![0, 3] · slices_S5000x4_S5000x1_0_3) main_arg0
  let main_v12 : FVec F S5000 .f32 := shapeCast S5000 main_v11 shapeCasts_S5000x1_S5000
  let main_v13 : FVec F S5000x1 .f32 := (extractStridedSlice S5000x1 ![0, 1] · slices_S5000x4_S5000x1_0_1) main_arg0
  let main_v14 : FVec F S5000 .f32 := shapeCast S5000 main_v13 shapeCasts_S5000x1_S5000
  let main_v15 : FVec F S5000 .f32 := subf main_v12 main_v14
  let main_cst_2 : FVec F S_ .f32 := constant S_ .f32 0x38800000#32
  let main_v16 : FVec F S5000 .f32 := broadcastInDim S5000 ![] bcast_S_S5000 main_cst_2
  let main_v17 : IVec S5000 1 := cmpf .oge main_v15 main_v16
  let main_cst_3 : FVec F S_ .f32 := constant S_ .f32 0xF149F2CA#32
  let main_v18 : FVec F S5000 .f32 := broadcastInDim S5000 ![] bcast_S_S5000 main_cst_3
  fn_part1 (F := F) main_arg1 main_v1 main_v3 main_v10 main_v17 main_v18
-- ==== KernelIdeal.lean ====
abbrev S5000x4 : Shape := ⟨2, ![5000, 4]⟩
abbrev S5000 : Shape := ⟨1, ![5000]⟩
abbrev S_ : Shape := ⟨0, ![]⟩
abbrev S120 : Shape := ⟨1, ![120]⟩
abbrev S5120 : Shape := ⟨1, ![5120]⟩
abbrev S5000x1 : Shape := ⟨2, ![5000, 1]⟩
abbrev S1x5120 : Shape := ⟨2, ![1, 5120]⟩
abbrev S5120x1 : Shape := ⟨2, ![5120, 1]⟩
abbrev S304x4 : Shape := ⟨2, ![304, 4]⟩
abbrev S1x304 : Shape := ⟨2, ![1, 304]⟩
abbrev S128x128 : Shape := ⟨2, ![128, 128]⟩
abbrev S128x1 : Shape := ⟨2, ![128, 1]⟩
abbrev S1x128 : Shape := ⟨2, ![1, 128]⟩
abbrev S1x4992 : Shape := ⟨2, ![1, 4992]⟩
abbrev S128x4992 : Shape := ⟨2, ![128, 4992]⟩
abbrev S4992 : Shape := ⟨1, ![4992]⟩
abbrev S1x4864 : Shape := ⟨2, ![1, 4864]⟩
abbrev S128x4864 : Shape := ⟨2, ![128, 4864]⟩
abbrev S4864 : Shape := ⟨1, ![4864]⟩
abbrev S1x4736 : Shape := ⟨2, ![1, 4736]⟩
abbrev S128x4736 : Shape := ⟨2, ![128, 4736]⟩
abbrev S4736 : Shape := ⟨1, ![4736]⟩
abbrev S1x4608 : Shape := ⟨2, ![1, 4608]⟩
abbrev S128x4608 : Shape := ⟨2, ![128, 4608]⟩
abbrev S4608 : Shape := ⟨1, ![4608]⟩
abbrev S1x4480 : Shape := ⟨2, ![1, 4480]⟩
abbrev S128x4480 : Shape := ⟨2, ![128, 4480]⟩
abbrev S4480 : Shape := ⟨1, ![4480]⟩
abbrev S1x4352 : Shape := ⟨2, ![1, 4352]⟩
abbrev S128x4352 : Shape := ⟨2, ![128, 4352]⟩
abbrev S4352 : Shape := ⟨1, ![4352]⟩
abbrev S1x4224 : Shape := ⟨2, ![1, 4224]⟩
abbrev S128x4224 : Shape := ⟨2, ![128, 4224]⟩
abbrev S4224 : Shape := ⟨1, ![4224]⟩
abbrev S1x4096 : Shape := ⟨2, ![1, 4096]⟩
abbrev S128x4096 : Shape := ⟨2, ![128, 4096]⟩
abbrev S4096 : Shape := ⟨1, ![4096]⟩
abbrev S1x3968 : Shape := ⟨2, ![1, 3968]⟩
abbrev S128x3968 : Shape := ⟨2, ![128, 3968]⟩
abbrev S3968 : Shape := ⟨1, ![3968]⟩
abbrev S1x3840 : Shape := ⟨2, ![1, 3840]⟩
abbrev S128x3840 : Shape := ⟨2, ![128, 3840]⟩
abbrev S3840 : Shape := ⟨1, ![3840]⟩
abbrev S1x3712 : Shape := ⟨2, ![1, 3712]⟩
abbrev S128x3712 : Shape := ⟨2, ![128, 3712]⟩
abbrev S3712 : Shape := ⟨1, ![3712]⟩
abbrev S1x3584 : Shape := ⟨2, ![1, 3584]⟩
abbrev S128x3584 : Shape := ⟨2, ![128, 3584]⟩
abbrev S3584 : Shape := ⟨1, ![3584]⟩
abbrev S1x3456 : Shape := ⟨2, ![1, 3456]⟩
abbrev S128x3456 : Shape := ⟨2, ![128, 3456]⟩
abbrev S3456 : Shape := ⟨1, ![3456]⟩
abbrev S1x3328 : Shape := ⟨2, ![1, 3328]⟩
abbrev S128x3328 : Shape := ⟨2, ![128, 3328]⟩
abbrev S3328 : Shape := ⟨1, ![3328]⟩
abbrev S1x3200 : Shape := ⟨2, ![1, 3200]⟩
abbrev S128x3200 : Shape := ⟨2, ![128, 3200]⟩
abbrev S3200 : Shape := ⟨1, ![3200]⟩
abbrev S1x3072 : Shape := ⟨2, ![1, 3072]⟩
abbrev S128x3072 : Shape := ⟨2, ![128, 3072]⟩
abbrev S3072 : Shape := ⟨1, ![3072]⟩
abbrev S1x2944 : Shape := ⟨2, ![1, 2944]⟩
abbrev S128x2944 : Shape := ⟨2, ![128, 2944]⟩
abbrev S2944 : Shape := ⟨1, ![2944]⟩
abbrev S1x2816 : Shape := ⟨2, ![1, 2816]⟩
abbrev S128x2816 : Shape := ⟨2, ![128, 2816]⟩
abbrev S2816 : Shape := ⟨1, ![2816]⟩
abbrev S1x2688 : Shape := ⟨2, ![1, 2688]⟩
abbrev S128x2688 : Shape := ⟨2, ![128, 2688]⟩
abbrev S2688 : Shape := ⟨1, ![2688]⟩
abbrev S1x2560 : Shape := ⟨2, ![1, 2560]⟩
abbrev S128x2560 : Shape := ⟨2, ![128, 2560]⟩
abbrev S2560 : Shape := ⟨1, ![2560]⟩
abbrev S1x2432 : Shape := ⟨2, ![1, 2432]⟩
abbrev S128x2432 : Shape := ⟨2, ![128, 2432]⟩
abbrev S2432 : Shape := ⟨1, ![2432]⟩
abbrev S1x2304 : Shape := ⟨2, ![1, 2304]⟩
abbrev S128x2304 : Shape := ⟨2, ![128, 2304]⟩
abbrev S2304 : Shape := ⟨1, ![2304]⟩
abbrev S1x2176 : Shape := ⟨2, ![1, 2176]⟩
abbrev S128x2176 : Shape := ⟨2, ![128, 2176]⟩
abbrev S2176 : Shape := ⟨1, ![2176]⟩
abbrev S1x2048 : Shape := ⟨2, ![1, 2048]⟩
abbrev S128x2048 : Shape := ⟨2, ![128, 2048]⟩
abbrev S2048 : Shape := ⟨1, ![2048]⟩
abbrev S1x1920 : Shape := ⟨2, ![1, 1920]⟩
abbrev S128x1920 : Shape := ⟨2, ![128, 1920]⟩
abbrev S1920 : Shape := ⟨1, ![1920]⟩
abbrev S1x1792 : Shape := ⟨2, ![1, 1792]⟩
abbrev S128x1792 : Shape := ⟨2, ![128, 1792]⟩
abbrev S1792 : Shape := ⟨1, ![1792]⟩
abbrev S1x1664 : Shape := ⟨2, ![1, 1664]⟩
abbrev S128x1664 : Shape := ⟨2, ![128, 1664]⟩
abbrev S1664 : Shape := ⟨1, ![1664]⟩
abbrev S1x1536 : Shape := ⟨2, ![1, 1536]⟩
abbrev S128x1536 : Shape := ⟨2, ![128, 1536]⟩
abbrev S1536 : Shape := ⟨1, ![1536]⟩
abbrev S1x1408 : Shape := ⟨2, ![1, 1408]⟩
abbrev S128x1408 : Shape := ⟨2, ![128, 1408]⟩
abbrev S1408 : Shape := ⟨1, ![1408]⟩
abbrev S1x1280 : Shape := ⟨2, ![1, 1280]⟩
abbrev S128x1280 : Shape := ⟨2, ![128, 1280]⟩
abbrev S1280 : Shape := ⟨1, ![1280]⟩
abbrev S1x1152 : Shape := ⟨2, ![1, 1152]⟩
abbrev S128x1152 : Shape := ⟨2, ![128, 1152]⟩
abbrev S1152 : Shape := ⟨1, ![1152]⟩
abbrev S1x1024 : Shape := ⟨2, ![1, 1024]⟩
abbrev S128x1024 : Shape := ⟨2, ![128, 1024]⟩
abbrev S1024 : Shape := ⟨1, ![1024]⟩
abbrev S1x896 : Shape := ⟨2, ![1, 896]⟩
abbrev S128x896 : Shape := ⟨2, ![128, 896]⟩
abbrev S896 : Shape := ⟨1, ![896]⟩
abbrev S1x768 : Shape := ⟨2, ![1, 768]⟩
abbrev S128x768 : Shape := ⟨2, ![128, 768]⟩
abbrev S768 : Shape := ⟨1, ![768]⟩
abbrev S1x640 : Shape := ⟨2, ![1, 640]⟩
abbrev S128x640 : Shape := ⟨2, ![128, 640]⟩
abbrev S640 : Shape := ⟨1, ![640]⟩
abbrev S1x512 : Shape := ⟨2, ![1, 512]⟩
abbrev S128x512 : Shape := ⟨2, ![128, 512]⟩
abbrev S512 : Shape := ⟨1, ![512]⟩
abbrev S1x384 : Shape := ⟨2, ![1, 384]⟩
abbrev S128x384 : Shape := ⟨2, ![128, 384]⟩
abbrev S384 : Shape := ⟨1, ![384]⟩
abbrev S1x256 : Shape := ⟨2, ![1, 256]⟩
abbrev S128x256 : Shape := ⟨2, ![128, 256]⟩
abbrev S256 : Shape := ⟨1, ![256]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1x1 : Shape := ⟨2, ![1, 1]⟩
abbrev S304x5120 : Shape := ⟨2, ![304, 5120]⟩
abbrev S304x1 : Shape := ⟨2, ![304, 1]⟩
abbrev S300x4 : Shape := ⟨2, ![300, 4]⟩
abbrev S1x300 : Shape := ⟨2, ![1, 300]⟩
abbrev S300 : Shape := ⟨1, ![300]⟩

abbrev nBuf : Space → Nat
  | .hbm => 46
  | .vmem => 13
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000, .f32⟩
  | .hbm, ⟨3, _⟩ => ⟨S_, .f32⟩
  | .hbm, ⟨4, _⟩ => ⟨S120, .f32⟩
  | .hbm, ⟨5, _⟩ => ⟨S5120, .f32⟩
  | .hbm, ⟨6, _⟩ => ⟨S5000x1, .f32⟩
  | .hbm, ⟨7, _⟩ => ⟨S5000, .f32⟩
  | .hbm, ⟨8, _⟩ => ⟨S_, .f32⟩
  | .hbm, ⟨9, _⟩ => ⟨S120, .f32⟩
  | .hbm, ⟨10, _⟩ => ⟨S5120, .f32⟩
  | .hbm, ⟨11, _⟩ => ⟨S5000x1, .f32⟩
  | .hbm, ⟨12, _⟩ => ⟨S5000, .f32⟩
  | .hbm, ⟨13, _⟩ => ⟨S_, .f32⟩
  | .hbm, ⟨14, _⟩ => ⟨S120, .f32⟩
  | .hbm, ⟨15, _⟩ => ⟨S5120, .f32⟩
  | .hbm, ⟨16, _⟩ => ⟨S5000x1, .f32⟩
  | .hbm, ⟨17, _⟩ => ⟨S5000, .f32⟩
  | .hbm, ⟨18, _⟩ => ⟨S_, .f32⟩
  | .hbm, ⟨19, _⟩ => ⟨S120, .f32⟩
  | .hbm, ⟨20, _⟩ => ⟨S5120, .f32⟩
  | .hbm, ⟨21, _⟩ => ⟨S5000x1, .f32⟩
  | .hbm, ⟨22, _⟩ => ⟨S5000, .f32⟩
  | .hbm, ⟨23, _⟩ => ⟨S_, .f32⟩
  | .hbm, ⟨24, _⟩ => ⟨S120, .f32⟩
  | .hbm, ⟨25, _⟩ => ⟨S5120, .f32⟩
  | .hbm, ⟨26, _⟩ => ⟨S5120, .f32⟩
  | .hbm, ⟨27, _⟩ => ⟨S5120, .f32⟩
  | .hbm, ⟨28, _⟩ => ⟨S5120, .f32⟩
  | .hbm, ⟨29, _⟩ => ⟨S5120, .f32⟩
  | .hbm, ⟨30, _⟩ => ⟨S5120, .f32⟩
  | .hbm, ⟨31, _⟩ => ⟨S5120, .f32⟩
  | .hbm, ⟨32, _⟩ => ⟨S1x5120, .f32⟩
  | .hbm, ⟨33, _⟩ => ⟨S1x5120, .f32⟩
  | .hbm, ⟨34, _⟩ => ⟨S1x5120, .f32⟩
  | .hbm, ⟨35, _⟩ => ⟨S1x5120, .f32⟩
  | .hbm, ⟨36, _⟩ => ⟨S1x5120, .f32⟩
  | .hbm, ⟨37, _⟩ => ⟨S5120x1, .f32⟩
  | .hbm, ⟨38, _⟩ => ⟨S5120x1, .f32⟩
  | .hbm, ⟨39, _⟩ => ⟨S5120x1, .f32⟩
  | .hbm, ⟨40, _⟩ => ⟨S5120x1, .f32⟩
  | .hbm, ⟨41, _⟩ => ⟨S304x4, .f32⟩
  | .hbm, ⟨42, _⟩ => ⟨S1x304, .f32⟩
  | .hbm, ⟨43, _⟩ => ⟨S300x4, .f32⟩
  | .hbm, ⟨44, _⟩ => ⟨S1x300, .f32⟩
  | .hbm, ⟨45, _⟩ => ⟨S300, .f32⟩
  | .local _ .vmem, ⟨0, _⟩ => ⟨S1x5120, .f32⟩
  | .local _ .vmem, ⟨1, _⟩ => ⟨S1x5120, .f32⟩
  | .local _ .vmem, ⟨2, _⟩ => ⟨S1x5120, .f32⟩
  | .local _ .vmem, ⟨3, _⟩ => ⟨S1x5120, .f32⟩
  | .local _ .vmem, ⟨4, _⟩ => ⟨S1x5120, .f32⟩
  | .local _ .vmem, ⟨5, _⟩ => ⟨S5120x1, .f32⟩
  | .local _ .vmem, ⟨6, _⟩ => ⟨S5120x1, .f32⟩
  | .local _ .vmem, ⟨7, _⟩ => ⟨S5120x1, .f32⟩
  | .local _ .vmem, ⟨8, _⟩ => ⟨S5120x1, .f32⟩
  | .local _ .vmem, ⟨9, _⟩ => ⟨S304x4, .f32⟩
  | .local _ .vmem, ⟨10, _⟩ => ⟨S1x304, .f32⟩
  | .local _ .vmem, ⟨11, _⟩ => ⟨S1x5120, .f32⟩
  | .local _ .vmem, ⟨12, _⟩ => ⟨S1x5120, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v19_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

def k0_cond1 (v5770 : BitVec 1) : BitVec 1 :=
  let v5771 : BitVec 32 := Scalar.extui v5770
  let c0_i32 : BitVec 32 := 0#32
  let v5772 : BitVec 1 := Scalar.cmpi .ne v5771 c0_i32
  v5772

abbrev stage0_0 : Fin 1 → Memref sig .tc .vmem S1x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S304x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x304 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1x5000 : Shape := ⟨2, ![1, 5000]⟩
abbrev S5000x5000 : Shape := ⟨2, ![5000, 5000]⟩
abbrev S1 : Shape := ⟨1, ![1]⟩
abbrev S300 : Shape := ⟨1, ![300]⟩
abbrev S300x1 : Shape := ⟨2, ![300, 1]⟩
abbrev S300x4 : Shape := ⟨2, ![300, 4]⟩

abbrev nBuf : Space → Nat
  | .hbm => 141
  | .vmem => 0
  | .smem => 0
  | _ => 0

abbrev hbmTy0_0 (i : Nat) : BufTy := match i % 128 with
  | 0 => ⟨S5000x4, .f32⟩
  | 1 => ⟨S5000, .f32⟩
  | 2 => ⟨S5000, .f32⟩
  | 3 => ⟨S5000, .i32⟩
  | 4 => ⟨S5000, .f32⟩
  | 5 => ⟨S5000, .i32⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S5000x4, .f32⟩
  | 15 => ⟨S_, .i32⟩
  | 16 => ⟨S5000, .i32⟩
  | 17 => ⟨S5000, .i1⟩
  | 18 => ⟨S_, .i32⟩
  | 19 => ⟨S5000, .i32⟩
  | 20 => ⟨S5000, .i32⟩
  | 21 => ⟨S5000, .i32⟩
  | 22 => ⟨S5000x1, .i32⟩
  | 23 => ⟨S5000, .f32⟩
  | 24 => ⟨S5000x1, .f32⟩
  | 25 => ⟨S5000, .f32⟩
  | 26 => ⟨S5000x1, .f32⟩
  | 27 => ⟨S5000, .f32⟩
  | 28 => ⟨S5000x1, .f32⟩
  | 29 => ⟨S5000, .f32⟩
  | 30 => ⟨S5000x1, .f32⟩
  | 31 => ⟨S5000, .f32⟩
  | 32 => ⟨S5000, .f32⟩
  | 33 => ⟨S5000, .f32⟩
  | 34 => ⟨S5000, .f32⟩
  | 35 => ⟨S5000x1, .f32⟩
  | 36 => ⟨S1x5000, .f32⟩
  | 37 => ⟨S5000x5000, .f32⟩
  | 38 => ⟨S5000x5000, .f32⟩
  | 39 => ⟨S5000x5000, .f32⟩
  | 40 => ⟨S5000x1, .f32⟩
  | 41 => ⟨S1x5000, .f32⟩
  | 42 => ⟨S5000x5000, .f32⟩
  | 43 => ⟨S5000x5000, .f32⟩
  | 44 => ⟨S5000x5000, .f32⟩
  | 45 => ⟨S5000x1, .f32⟩
  | 46 => ⟨S1x5000, .f32⟩
  | 47 => ⟨S5000x5000, .f32⟩
  | 48 => ⟨S5000x5000, .f32⟩
  | 49 => ⟨S5000x5000, .f32⟩
  | 50 => ⟨S5000x1, .f32⟩
  | 51 => ⟨S1x5000, .f32⟩
  | 52 => ⟨S5000x5000, .f32⟩
  | 53 => ⟨S5000x5000, .f32⟩
  | 54 => ⟨S5000x5000, .f32⟩
  | 55 => ⟨S5000x5000, .f32⟩
  | 56 => ⟨S_, .f32⟩
  | 57 => ⟨S5000x5000, .f32⟩
  | 58 => ⟨S5000x5000, .f32⟩
  | 59 => ⟨S5000x5000, .f32⟩
  | 60 => ⟨S_, .f32⟩
  | 61 => ⟨S5000x5000, .f32⟩
  | 62 => ⟨S5000x5000, .f32⟩
  | 63 => ⟨S5000x5000, .f32⟩
  | 64 => ⟨S5000x1, .f32⟩
  | 65 => ⟨S1x5000, .f32⟩
  | 66 => ⟨S5000x5000, .f32⟩
  | 67 => ⟨S5000x5000, .f32⟩
  | 68 => ⟨S5000x5000, .f32⟩
  | 69 => ⟨S5000x5000, .f32⟩
  | 70 => ⟨S_, .f32⟩
  | 71 => ⟨S5000x5000, .f32⟩
  | 72 => ⟨S5000x5000, .f32⟩
  | 73 => ⟨S5000x5000, .f32⟩
  | 74 => ⟨S5000, .i32⟩
  | 75 => ⟨S_, .f32⟩
  | 76 => ⟨S5000, .f32⟩
  | 77 => ⟨S5000, .i1⟩
  | 78 => ⟨S_, .i32⟩
  | 79 => ⟨S_, .i32⟩
  | 80 => ⟨S5000x5000, .f32⟩
  | 81 => ⟨S5000, .i32⟩
  | 82 => ⟨S_, .i32⟩
  | 83 => ⟨S_, .i32⟩
  | 84 => ⟨S5000, .i1⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S1x5000, .f32⟩
  | 104 => ⟨S5000, .f32⟩
  | 105 => ⟨S_, .f32⟩
  | 106 => ⟨S5000, .f32⟩
  | 107 => ⟨S5000, .i1⟩
  | 108 => ⟨S_, .i32⟩
  | 109 => ⟨S5000, .i32⟩
  | 110 => ⟨S5000, .i1⟩
  | 111 => ⟨S5000, .i1⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S1, .i1⟩
  | 119 => ⟨S_, .i1⟩
  | 120 => ⟨S5000, .i1⟩
  | 121 => ⟨S5000, .i1⟩
  | 122 => ⟨S5000, .i1⟩
  | 123 => ⟨S5000, .i1⟩
  | 124 => ⟨S_, .i32⟩
  | 125 => ⟨S_, .i32⟩
  | 126 => ⟨S_, .f32⟩
  | 127 => ⟨S_, .f32⟩
  | _ => ⟨S5000x4, .f32⟩

abbrev hbmTy0_1 (i : Nat) : BufTy := match i % 128 with
  | 0 => ⟨S5000, .f32⟩
  | 1 => ⟨S5000, .f32⟩
  | 2 => ⟨S300, .f32⟩
  | 3 => ⟨S300, .i32⟩
  | 4 => ⟨S_, .i32⟩
  | 5 => ⟨S300, .i32⟩
  | 6 => ⟨S300, .i1⟩
  | 7 => ⟨S_, .i32⟩
  | 8 => ⟨S300, .i32⟩
  | 9 => ⟨S300, .i32⟩
  | 10 => ⟨S300, .i32⟩
  | 11 => ⟨S300x1, .i32⟩
  | 12 => ⟨S300x4, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_4 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_5 : Ref sig .tc := ⟨.hbm, 75, rfl⟩
abbrev main_v64 : Ref sig .tc := ⟨.hbm, 76, rfl⟩
abbrev main_v65 : Ref sig .tc := ⟨.hbm, 77, rfl⟩
abbrev main_c_6 : Ref sig .tc := ⟨.hbm, 78, rfl⟩
abbrev main_c_7 : Ref sig .tc := ⟨.hbm, 79, rfl⟩
abbrev main_v66_0 : Ref sig .tc := ⟨.hbm, 80, rfl⟩
abbrev main_v66_1 : Ref sig .tc := ⟨.hbm, 81, rfl⟩
abbrev main_v66_2 : Ref sig .tc := ⟨.hbm, 82, rfl⟩
abbrev main_v66_3 : Ref sig .tc := ⟨.hbm, 83, rfl⟩
abbrev main_v66_4 : Ref sig .tc := ⟨.hbm, 84, rfl⟩
abbrev main_while0c_c_15 : Ref sig .tc := ⟨.hbm, 85, rfl⟩
abbrev main_while0c_v75 : Ref sig .tc := ⟨.hbm, 86, rfl⟩
abbrev main_while0b_c_15 : Ref sig .tc := ⟨.hbm, 87, rfl⟩
abbrev main_while0b_v75 : Ref sig .tc := ⟨.hbm, 88, rfl⟩
abbrev main_while0b_v76 : Ref sig .tc := ⟨.hbm, 89, rfl⟩
abbrev main_while0b_c_16 : Ref sig .tc := ⟨.hbm, 90, rfl⟩
abbrev main_while0b_v77 : Ref sig .tc := ⟨.hbm, 91, rfl⟩
abbrev main_while0b_c_17 : Ref sig .tc := ⟨.hbm, 92, rfl⟩
abbrev main_while0b_v78 : Ref sig .tc := ⟨.hbm, 93, rfl⟩
abbrev main_while0b_v79 : Ref sig .tc := ⟨.hbm, 94, rfl⟩
abbrev main_while0b_c_18 : Ref sig .tc := ⟨.hbm, 95, rfl⟩
abbrev main_while0b_c_19 : Ref sig .tc := ⟨.hbm, 96, rfl⟩
abbrev main_while0b_v80 : Ref sig .tc := ⟨.hbm, 97, rfl⟩
abbrev main_while0b_c_20 : Ref sig .tc := ⟨.hbm, 98, rfl⟩
abbrev main_while0b_c_21 : Ref sig .tc := ⟨.hbm, 99, rfl⟩
abbrev main_while0b_v81 : Ref sig .tc := ⟨.hbm, 100, rfl⟩
abbrev main_while0b_c_22 : Ref sig .tc := ⟨.hbm, 101, rfl⟩
abbrev main_while0b_v82 : Ref sig .tc := ⟨.hbm, 102, rfl⟩
abbrev main_while0b_v83 : Ref sig .tc := ⟨.hbm, 103, rfl⟩
abbrev main_while0b_v84 : Ref sig .tc := ⟨.hbm, 104, rfl⟩
abbrev main_while0b_cst_23 : Ref sig .tc := ⟨.hbm, 105, rfl⟩
abbrev main_while0b_v85 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_c_24 : Ref sig .tc := ⟨.hbm, 112, rfl⟩
abbrev main_while0b_v91 : Ref sig .tc := ⟨.hbm, 113, rfl⟩
abbrev main_while0b_v92 : Ref sig .tc := ⟨.hbm, 114, rfl⟩
abbrev main_while0b_c_25 : Ref sig .tc := ⟨.hbm, 115, rfl⟩
abbrev main_while0b_v93 : Ref sig .tc := ⟨.hbm, 116, rfl⟩
abbrev main_while0b_v94 : Ref sig .tc := ⟨.hbm, 117, rfl⟩
abbrev main_while0b_v95 : Ref sig .tc := ⟨.hbm, 118, rfl⟩
abbrev main_while0b_v96 : Ref sig .tc := ⟨.hbm, 119, rfl⟩
abbrev main_while0b_v97 : Ref sig .tc := ⟨.hbm, 120, rfl⟩
abbrev main_while0b_v98 : Ref sig .tc := ⟨.hbm, 121, rfl⟩
abbrev main_while0b_v99 : Ref sig .tc := ⟨.hbm, 122, rfl⟩
abbrev main_while0b_v100 : Ref sig .tc := ⟨.hbm, 123, rfl⟩
abbrev main_while0b_c_26 : Ref sig .tc := ⟨.hbm, 124, rfl⟩
abbrev main_while0b_v101 : Ref sig .tc := ⟨.hbm, 125, rfl⟩
abbrev main_cst_8 : Ref sig .tc := ⟨.hbm, 126, rfl⟩
abbrev main_call1_v0 : Ref sig .tc := ⟨.hbm, 127, rfl⟩
abbrev main_call1_v1 : Ref sig .tc := ⟨.hbm, 128, rfl⟩
abbrev main_v67 : Ref sig .tc := ⟨.hbm, 129, rfl⟩
abbrev main_values : Ref sig .tc := ⟨.hbm, 130, rfl⟩
abbrev main_indices : Ref sig .tc := ⟨.hbm, 131, rfl⟩
abbrev main_c_9 : Ref sig .tc := ⟨.hbm, 132, rfl⟩
abbrev main_v68 : Ref sig .tc := ⟨.hbm, 133, rfl⟩
abbrev main_v69 : Ref sig .tc := ⟨.hbm, 134, rfl⟩
abbrev main_c_10 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩

abbrev nD : Nat := 1
abbrev τ : Topo := Topo.v7x

variable {F : FTy → Type} [FloatOps F]

abbrev main_while0_count : Scf.Loop 32 := ⟨0#32, 5000#32, 1#32⟩
-- ==== Proof.Nms.Ref.lean ====
module

public import proofs.«01_k».proof.Proof.Gen.ReferenceIdeal.Run
public import Idealize.ShloMosaic.Lib.Quiescent
public import Idealize.ShloMosaic.PureOps.Ideal

/-!
# What the reference leaves alone

Buffers the loop does not write keep what they held before it, so the two arguments are kept, and
the reference declares no semaphore.
-/

set_option maxRecDepth 16384

@[expose] public section

noncomputable section

namespace Cert.ReferenceIdeal.Nms

open Idealize.ShloMosaic Cert.ReferenceIdeal Cert.ReferenceIdeal.Gen Cert.ReferenceIdeal.Value
open Idealize.ShloMosaic.TcCoe Idealize.ShloMosaic.StableHlo
open Idealize.SL.Sem

variable (m : (ℓ : Loc nD τ sig) → Buf (Elt Ideal) ℓ) (c : Dev nD)

/-- The contents before the loop, and at the end. -/
abbrev entry : Valuation τ sig (Elt Ideal) := entryContents preI m c
abbrev last : Valuation τ sig (Elt Ideal) := finalContents condOps preI bodyI postI 5000 m c

/-- A buffer that the loop writes in none of its stretches. -/
abbrev Outside (r : Ref sig .tc) : Prop := r ∉ condOps_W ∧ r ∉ while0Ops0_W

/-- It keeps what it held before the loop. -/
theorem loop_keeps {r : Ref sig .tc} (h : Outside r) :
    ∀ k, atK (F := Ideal) m k c (Proc.devRef .tc r) = entry m c (Proc.devRef .tc r)
  | 0 => rfl
  | k + 1 => by
    refine Eq.trans ?_ (loop_keeps h k)
    exact (after_of_writes_sub while0Ops0 _ while0Ops0_writes h.2).trans
      (after_of_writes_sub condOps _ condOps_writes h.1)

/-- The same after the condition that fails. -/
theorem left_keeps {r : Ref sig .tc} (h : Outside r) :
    after condOps (atK (F := Ideal) m 5000 c) (Proc.devRef .tc r) = entry m c (Proc.devRef .tc r) :=
  (after_of_writes_sub condOps _ condOps_writes h.1).trans (loop_keeps m c h 5000)

/-- The references the operations after the loop write. -/
abbrev tailRefs : List (Ref sig .tc) :=
  [main_cst_8, main_call1_v0, main_call1_v1, main_v67, main_values, main_indices, main_c_9, main_v68, main_v69, main_c_10,
    main_v70, main_v71, main_v72, main_v73, main_v74]

theorem tail_writes : (hostOps0_3 ++ hostOps0_4 ++ hostOps0_5 : List (HloOp τ sig (Elt Ideal))).Forall
    fun op => op.writes ⊆ (tailRefs.map (Proc.devRef (τ := τ) .tc)).toFinset :=
  StableHlo.forall_writes_sub_of_map rfl

theorem tail_keeps {r : Ref sig .tc} (h : Outside r) (hr : r ∉ tailRefs) :
    last m c (Proc.devRef .tc r) = entry m c (Proc.devRef .tc r) := by
  refine Eq.trans ?_ (left_keeps m c h)
  refine Eq.trans ?_ (after_of_writes_sub _ _ tail_writes hr)
  rw [after_append, after_append]
  rfl

theorem entry_keeps {r : Ref sig .tc} (h0 : r ∉ hostOps0_W) (h1 : r ∉ hostOps0_1_W) (h2 : r ∉ hostOps0_2_W) :
    entry m c (Proc.devRef .tc r) = launchContents m c (Proc.devRef .tc r) :=
  (after_of_writes_sub hostOps0_2 _ hostOps0_2_writes h2).trans
    ((after_of_writes_sub hostOps0_1 _ hostOps0_1_writes h1).trans (after_of_writes_sub hostOps0 _ hostOps0_writes h0))

theorem last_arg0 : last m c (Proc.devRef .tc main_arg0) = m (c.tc.loc main_arg0) :=
  (tail_keeps m c (by decide +kernel) (by decide +kernel)).trans
    (entry_keeps m c (by decide +kernel) (by decide +kernel) (by decide +kernel))

theorem last_arg1 : last m c (Proc.devRef .tc main_arg1) = m (c.tc.loc main_arg1) :=
  (tail_keeps m c (by decide +kernel) (by decide +kernel)).trans
    (entry_keeps m c (by decide +kernel) (by decide +kernel) (by decide +kernel))

/-- The reference ends, with its two results as computed, its arguments kept and no counter raised. -/
theorem run_values (g : Dev nD → PrngReg) :
    θ_run (defs (F := Ideal)) (onTc (τ := τ) (main (F := Ideal))) ⟨m, fun _ => 0, g⟩ (fun r =>
      (∀ c : Dev nD, r.2.mem (c.tc.loc main_v74) = last m c (Proc.devRef .tc main_v74)
        ∧ r.2.mem (c.tc.loc main_values) = last m c (Proc.devRef .tc main_values)
        ∧ r.2.mem (c.tc.loc main_arg0) = m (c.tc.loc main_arg0)
        ∧ r.2.mem (c.tc.loc main_arg1) = m (c.tc.loc main_arg1))
      ∧ r.2.sem = fun _ => 0) := by
  refine (θ_run _ _ _).mono (fun r hr => ⟨fun c => ?_, sem_eq_zero_of_no_sems (by decide) _⟩) (run_fold m g)
  exact ⟨hr c main_v74 rfl, hr c main_values rfl, (hr c main_arg0 rfl).trans (last_arg0 m c),
    (hr c main_arg1 rfl).trans (last_arg1 m c)⟩

end Cert.ReferenceIdeal.Nms

end
-- ==== Proof.Nms.Struct.lean ====
module

public import proofs.«01_k».proof.KernelIdeal

/-!
# The kernel's body, block by block

The printed body is one long list of operations. Here the same operations are
written once per kind of block, with the block's offset and the length of the
rest of the row as parameters.
-/

set_option maxRecDepth 16384

@[expose] public section

noncomputable section

namespace Cert.KernelIdeal.Nms

open Idealize.ShloMosaic Idealize.SL.Sem Cert.KernelIdeal

/-- A row of `n` numbers. -/
abbrev Rw (n : Nat) : Shape := ⟨2, ![1, n]⟩
/-- A table of 128 rows of `n` numbers. -/
abbrev Mx (n : Nat) : Shape := ⟨2, ![128, n]⟩
/-- A list of `n` numbers. -/
abbrev Ln (n : Nat) : Shape := ⟨1, ![n]⟩

variable {F : FTy → Type} [FloatOps F] [Facts]

/-- The programs of the kernel. -/
abbrev KProg (F : FTy → Type) [FloatOps F] [Facts] (α : Type) :=
  Prog (TpuEff nD τ sig (Elt F) (Λ₀ F) .tc) α

/-- The buffers the body works on. -/
structure Bufs where
  x1 : Memref sig .tc .vmem S1x5120 .f32
  y1 : Memref sig .tc .vmem S1x5120 .f32
  x2 : Memref sig .tc .vmem S1x5120 .f32
  y2 : Memref sig .tc .vmem S1x5120 .f32
  s : Memref sig .tc .vmem S1x5120 .f32
  cx1 : Memref sig .tc .vmem S5120x1 .f32
  cy1 : Memref sig .tc .vmem S5120x1 .f32
  cx2 : Memref sig .tc .vmem S5120x1 .f32
  cy2 : Memref sig .tc .vmem S5120x1 .f32
  obox : Memref sig .tc .vmem S304x4 .f32
  os : Memref sig .tc .vmem S1x304 .f32
  alive : Memref sig .tc .vmem S1x5120 .f32
  dest : Memref sig .tc .vmem S1x5120 .f32

/-! ## Shape facts -/

theorem pos_row {n : Nat} (hn : 0 < n) : 0 < (Rw n).numel := by
  simpa [Shape.numel, Fin.prod_univ_two] using hn

theorem inb_row {o n : Nat} (h : o + n ≤ 5120) :
    ∀ a, (![0, o] : Fin 2 → Nat) a + (Rw n).size a ≤ S1x5120.size a := by
  intro a
  fin_cases a
  · simp
  · simpa using h

theorem inb_col {o : Nat} (h : o + 128 ≤ 5120) :
    ∀ a, (![o, 0] : Fin 2 → Nat) a + S128x1.size a ≤ S5120x1.size a := by
  intro a
  fin_cases a
  · simpa using h
  · simp

theorem cast_row (n : Nat) : (Rw n).ShapeCasts (Rw n) := rfl

theorem bc_col (n : Nat) : S128x1.Broadcasts (Mx n) := by
  refine ⟨le_refl _, fun a => ?_⟩
  fin_cases a
  · exact .inr fun _ => rfl
  · exact .inl rfl

theorem bc_row (n : Nat) : (Rw n).Broadcasts (Mx n) := by
  refine ⟨le_refl _, fun a => ?_⟩
  fin_cases a
  · exact .inl rfl
  · exact .inr fun _ => rfl

theorem red_col (n : Nat) : (Mx n).Reduces [0] (Ln n) := by
  refine ⟨rfl, Nat.one_pos, fun b => ?_⟩
  fin_cases b
  rfl

theorem cast_list (n : Nat) : (Ln n).ShapeCasts (Rw n) := by
  simp [Shape.ShapeCasts, Shape.numel, Fin.prod_univ_two]

theorem pos_col : 0 < S128x1.numel := by decide

/-! ## Loads and stores -/

/-- `n` numbers of a row buffer, from `o` on. -/
def ldR (m : Memref sig .tc .vmem S1x5120 .f32) (o n : Nat) (h : o + n ≤ 5120) (hn : 0 < n) :
    KProg F (Vec F (Rw n) .f32) :=
  Prog.lift (.load m (Rect.unit (s := S1x5120) ![0, o] (Rw n).size (inb_row h)).toLoadRect
    (View.loadsAt_vmem (pos_row hn)))

/-- 128 numbers of a column buffer, from `o` on. -/
def ldC (m : Memref sig .tc .vmem S5120x1 .f32) (o : Nat) (h : o + 128 ≤ 5120) :
    KProg F (Vec F S128x1 .f32) :=
  Prog.lift (.load m (Rect.unit (s := S5120x1) ![o, 0] S128x1.size (inb_col h)).toLoadRect
    (View.loadsAt_vmem pos_col))

/-- A store of `n` numbers into a row buffer at `o`, after the load of what it covers. -/
def stR (m : Memref sig .tc .vmem S1x5120 .f32) (o n : Nat) (h : o + n ≤ 5120) (hn : 0 < n)
    (v : FVec F (Rw n) .f32) : KProg F PUnit := do
  let _ ← ldR m o n h hn
  Prog.lift (.store m (Rect.unit (s := S1x5120) ![0, o] (Rw n).size (inb_row h))
    (shapeCast (Rw n) v (cast_row n)) Finset.univ (View.stores_vmem_bits_univ (pos_row hn) rfl)
    (.inl rfl))

/-! ## What is computed between them -/

/-- The number a word stands for. -/
abbrev cst (F : FTy → Type) [FloatOps F] (w : BitVec 32) : F .f32 := Scalar.ofBits .f32 w

def eyeP : FVec F S128x128 .f32 :=
  select (cmpi .eq (iota .tc S128x128 32 [0] (by decide)) (iota .tc S128x128 32 [1] (by decide)))
    (broadcast S128x128 (cst F 0x3F800000#32)) (broadcast S128x128 (cst F 0x00000000#32))

def ltiP : FVec F S128x128 .f32 :=
  select (cmpi .sle (iota .tc S128x128 32 [0] (by decide)) (iota .tc S128x128 32 [1] (by decide)))
    (broadcast S128x128 (cst F 0x3F800000#32)) (broadcast S128x128 (cst F 0x00000000#32))

def lowP : IVec S128x128 1 :=
  cmpi .slt (iota .tc S128x128 32 [1] (by decide)) (iota .tc S128x128 32 [0] (by decide))

def validP (s : FVec F S1x5120 .f32) : FVec F S1x5120 .f32 :=
  select (cmpf .ogt s (broadcast S1x5120 (cst F 0x3D4CCCCD#32)))
    (broadcast S1x5120 (cst F 0x3F800000#32)) (broadcast S1x5120 (cst F 0x00000000#32))

/-- The areas of a column's boxes. -/
def areaC (cx1 cy1 cx2 cy2 : FVec F S128x1 .f32) : FVec F S128x1 .f32 :=
  mulf (subf cx2 cx1) (subf cy2 cy1)

/-- The shared area of each column box and each row box. -/
def interP (n : Nat) (cx1 cy1 cx2 cy2 : FVec F S128x1 .f32) (x1 y1 x2 y2 : FVec F (Rw n) .f32) :
    FVec F (Mx n) .f32 :=
  mulf
    (maximumf (subf (minimumf (broadcastTo (Mx n) cx2 (bc_col n)) (broadcastTo (Mx n) x2 (bc_row n)))
      (maximumf (broadcastTo (Mx n) cx1 (bc_col n)) (broadcastTo (Mx n) x1 (bc_row n))))
      (broadcast (Mx n) (cst F 0x00000000#32)))
    (maximumf (subf (minimumf (broadcastTo (Mx n) cy2 (bc_col n)) (broadcastTo (Mx n) y2 (bc_row n)))
      (maximumf (broadcastTo (Mx n) cy1 (bc_col n)) (broadcastTo (Mx n) y1 (bc_row n))))
      (broadcast (Mx n) (cst F 0x00000000#32)))

/-- Where the quotient of the shared and the joint area is above one half. -/
def overP (n : Nat) (area cx1 cy1 cx2 cy2 : FVec F S128x1 .f32) (x1 y1 x2 y2 : FVec F (Rw n) .f32) :
    IVec (Mx n) 1 :=
  cmpf .ogt
    (divf (interP n cx1 cy1 cx2 cy2 x1 y1 x2 y2)
      (subf (addf (broadcastTo (Mx n) area (bc_col n))
        (broadcastTo (Mx n) (mulf (subf x2 x1) (subf y2 y1)) (bc_row n)))
        (interP n cx1 cy1 cx2 cy2 x1 y1 x2 y2)))
    (broadcast (Mx n) (cst F 0x3F000000#32))

/-- A block's suppression table: ones below the diagonal where two of its boxes overlap. -/
def slP (cx1 cy1 cx2 cy2 : FVec F S128x1 .f32) (x1 y1 x2 y2 : FVec F (Rw 128) .f32) :
    FVec F S128x128 .f32 :=
  select (andi (overP 128 (areaC cx1 cy1 cx2 cy2) cx1 cy1 cx2 cy2 x1 y1 x2 y2) lowP)
    (broadcast S128x128 (cst F 0x3F800000#32)) (broadcast S128x128 (cst F 0x00000000#32))

/-- The row turned into a column. -/
def trP (row : FVec F (Rw 128) .f32) : FVec F S128x1 .f32 :=
  matmul dot_S128x128_S1x128_S128x1_1_1_0_0_n_n none eyeP row (constant S128x1 .f32 0x00000000#32)

/-- The column turned into a row. -/
def rowP (col : FVec F S128x1 .f32) : FVec F (Rw 128) .f32 :=
  matmul dot_S128x1_S128x128_S1x128_0_0_1_1_n_n none col eyeP (constant S1x128 .f32 0x00000000#32)

/-- One step of the block's iteration. -/
def stepP (sl : FVec F S128x128 .f32) (calive keep : FVec F S128x1 .f32) : FVec F S128x1 .f32 :=
  mulf calive
    (select
      (cmpf .olt
        (matmul dot_S128x128_S128x1_S128x1_1_0_0_1_n_n none sl keep (constant S128x1 .f32 0x00000000#32))
        (broadcast S128x1 (cst F 0x3F000000#32)))
      (broadcast S128x1 (cst F 0x3F800000#32)) (broadcast S128x1 (cst F 0x00000000#32)))

/-- The sum of a column's entries. -/
def sumC (v : FVec F S128x1 .f32) : F .f32 :=
  extractAt ![0, 0, 0]
    (shapeCast S1x1x1
      (multiReduction .add [1, 2] S1 (shapeCast S1x128x1 v (by decide)) 0x00000000#32 (by decide) (.inl rfl) rfl)
      (by decide)) (by decide)

/-- Whether the sum of a column's entries is above zero. -/
def someC (v : FVec F S128x1 .f32) : BitVec 1 :=
  Scalar.cmpf .ogt (sumC v) (cst F 0x00000000#32)

/-- The rest of the row after a block whose kept boxes are `keep`. -/
def tailP (n : Nat) (keep cx1 cy1 cx2 cy2 : FVec F S128x1 .f32) (x1 y1 x2 y2 al : FVec F (Rw n) .f32) :
    FVec F (Rw n) .f32 :=
  mulf al
    (select
      (shapeCast (Rw n)
        (cmpf .ogt
          (multiReduction .maximumf [0] (Ln n)
            (select
              (overP n (areaC cx1 cy1 cx2 cy2) cx1 cy1
                (select (cmpf .ogt keep (broadcast S128x1 (cst F 0x3F000000#32))) cx2
                  (broadcast S128x1 (cst F 0xFF61B1E6#32)))
                cy2 x1 y1 x2 y2)
              (broadcast (Mx n) (cst F 0x3F800000#32)) (broadcast (Mx n) (cst F 0x00000000#32)))
            0xFF800000#32 (red_col n) (.inl rfl) rfl)
          (broadcast (Ln n) (cst F 0x00000000#32)))
        (cast_list n))
      (broadcast (Rw n) (cst F 0x00000000#32)) (broadcast (Rw n) (cst F 0x3F800000#32)))

/-! ## A pass over the blocks -/

/-- What a block reads: its boxes as rows and as columns, and its part of the mask. -/
structure Blk (F : FTy → Type) where
  x1 : FVec F (Rw 128) .f32
  y1 : FVec F (Rw 128) .f32
  x2 : FVec F (Rw 128) .f32
  y2 : FVec F (Rw 128) .f32
  cx1 : FVec F S128x1 .f32
  cy1 : FVec F S128x1 .f32
  cx2 : FVec F S128x1 .f32
  cy2 : FVec F S128x1 .f32
  al : FVec F (Rw 128) .f32

/-- A block's suppression table. -/
def Blk.sl (b : Blk F) : FVec F S128x128 .f32 := slP b.cx1 b.cy1 b.cx2 b.cy2 b.x1 b.y1 b.x2 b.y2
/-- A block's part of the mask, as a column. -/
def Blk.col (b : Blk F) : FVec F S128x1 .f32 := trP b.al

/-- The reads of the block at `o`. -/
def rdBlk (B : Bufs) (o : Nat) (h : o + 128 ≤ 5120) : KProg F (Blk F) := do
  let x1 ← ldR B.x1 o 128 h (by decide)
  let y1 ← ldR B.y1 o 128 h (by decide)
  let x2 ← ldR B.x2 o 128 h (by decide)
  let y2 ← ldR B.y2 o 128 h (by decide)
  let cx1 ← ldC B.cx1 o h
  let cy1 ← ldC B.cy1 o h
  let cx2 ← ldC B.cx2 o h
  let cy2 ← ldC B.cy2 o h
  let al ← ldR B.alive o 128 h (by decide)
  pure ⟨shapeCast (Rw 128) x1 (cast_row 128), shapeCast (Rw 128) y1 (cast_row 128),
    shapeCast (Rw 128) x2 (cast_row 128), shapeCast (Rw 128) y2 (cast_row 128),
    shapeCast S128x1 cx1 rfl, shapeCast S128x1 cy1 rfl, shapeCast S128x1 cx2 rfl,
    shapeCast S128x1 cy2 rfl, al⟩

/-- The rest of the row, from `o` on, after a block. -/
def tailB (B : Bufs) (o n : Nat) (h : o + n ≤ 5120) (hn : 0 < n) (b : Blk F)
    (keep : FVec F S128x1 .f32) : KProg F PUnit := do
  let x1 ← ldR B.x1 o n h hn
  let y1 ← ldR B.y1 o n h hn
  let x2 ← ldR B.x2 o n h hn
  let y2 ← ldR B.y2 o n h hn
  let al ← ldR B.alive o n h hn
  stR B.alive o n h hn
    (tailP n keep b.cx1 b.cy1 b.cx2 b.cy2 (shapeCast (Rw n) x1 (cast_row n))
      (shapeCast (Rw n) y1 (cast_row n)) (shapeCast (Rw n) x2 (cast_row n))
      (shapeCast (Rw n) y2 (cast_row n)) al)

/-- The rest of the row after a block, when `m` blocks follow it. -/
def tailO (B : Bufs) (b : Blk F) (keep : FVec F S128x1 .f32) : (m o : Nat) → o + 128 * m = 5120 →
    KProg F PUnit
  | 0, _, _ => pure ⟨⟩
  | m + 1, o, h => tailB B o (128 * (m + 1)) (by omega) (by omega) b keep

/-- How a block's iteration runs: from its table and its part of the mask to its kept boxes and the
pass's sum. -/
abbrev Iter (F : FTy → Type) [FloatOps F] [Facts] :=
  FVec F S128x128 .f32 → FVec F S128x1 .f32 → FVec F S128x1 .f32 →
    KProg F (FVec F S128x1 .f32 × FVec F S128x1 .f32)

/-- A pass from the block at `o` on, one iteration for each block left. -/
def passP (B : Bufs) : (its : List (Iter F)) → (o : Nat) → o + 128 * its.length = 5120 →
    FVec F S128x1 .f32 → KProg F (FVec F S128x1 .f32)
  | [], _, _, acc => pure acc
  | it :: its, o, h, acc => do
    let b ← rdBlk B o (by simp only [List.length_cons] at h; omega)
    let ⟨keep, acc'⟩ ← it b.sl b.col acc
    stR B.alive o 128 (by simp only [List.length_cons] at h; omega) (by decide) (rowP keep)
    tailO B b keep its.length (o + 128) (by simp only [List.length_cons] at h; omega)
    passP B its (o + 128) (by simp only [List.length_cons] at h; omega) acc'

/-- The short iteration: four steps, and the last step's change added up. -/
def itShort : Iter F := fun sl col acc =>
  pure ⟨stepP sl col (stepP sl col (stepP sl col (stepP sl col col))),
    addf acc (absf (subf (stepP sl col (stepP sl col (stepP sl col (stepP sl col col))))
      (stepP sl col (stepP sl col (stepP sl col col)))))⟩

/-- A pass from the start: the mask is the valid boxes first. -/
def pass (B : Bufs) (its : List (Iter F)) (hl : its.length = 40) (valid : FVec F S1x5120 .f32) :
    KProg F (FVec F S128x1 .f32) := do
  stR B.alive 0 5120 (by decide) (by decide) valid
  passP B its 0 (by rw [hl]) (broadcast S128x1 (cst F 0x00000000#32))

/-! ## Ranks and selection -/

/-- The words of the numbers 0, 128, 256, … -/
def offW : List (BitVec 32) :=
  [0x00000000#32, 0x43000000#32, 0x43800000#32, 0x43C00000#32, 0x44000000#32, 0x44200000#32,
   0x44400000#32, 0x44600000#32, 0x44800000#32, 0x44900000#32, 0x44A00000#32, 0x44B00000#32,
   0x44C00000#32, 0x44D00000#32, 0x44E00000#32, 0x44F00000#32, 0x45000000#32, 0x45080000#32,
   0x45100000#32, 0x45180000#32, 0x45200000#32, 0x45280000#32, 0x45300000#32, 0x45380000#32,
   0x45400000#32, 0x45480000#32, 0x45500000#32, 0x45580000#32, 0x45600000#32, 0x45680000#32,
   0x45700000#32, 0x45780000#32, 0x45800000#32, 0x45840000#32, 0x45880000#32, 0x458C0000#32,
   0x45900000#32, 0x45940000#32, 0x45980000#32, 0x459C0000#32]

def totalP (al : FVec F S1x5120 .f32) : FVec F S1x1 .f32 :=
  shapeCast S1x1 (multiReduction .add [1] S1 al 0x00000000#32 (by decide) (.inl rfl) rfl) (by decide)

def pos1P : FVec F S1x128 .f32 :=
  addf (sitofp .f32 (iota .tc S1x128 32 [1] (by decide))) (broadcast S1x128 (cst F 0x3F800000#32))

def gkP (koff : FVec F S1x1 .f32) (row : FVec F (Rw 128) .f32) : FVec F S1x128 .f32 :=
  addf (broadcastTo S1x128 koff (by decide))
    (matmul dot_S1x128_S128x128_S1x128_1_0_0_1_n_n none row ltiP (constant S1x128 .f32 0x00000000#32))

/-- Where each box of a block goes. -/
def destP (pos1 : FVec F S1x128 .f32) (w : BitVec 32) (total koff : FVec F S1x1 .f32) (row : FVec F (Rw 128) .f32) :
    FVec F (Rw 128) .f32 :=
  select (cmpf .ogt row (broadcast S1x128 (cst F 0x3F000000#32)))
    (subf (gkP koff row) (broadcast S1x128 (cst F 0x3F800000#32)))
    (subf
      (subf (addf (broadcastTo S1x128 (addf total (broadcast S1x1 (cst F w))) (by decide)) pos1)
        (gkP koff row))
      (broadcast S1x128 (cst F 0x3F800000#32)))

def koffP (koff : FVec F S1x1 .f32) (row : FVec F (Rw 128) .f32) : FVec F S1x1 .f32 :=
  addf koff
    (shapeCast S1x1 (multiReduction .add [1] S1 row 0x00000000#32 (by decide) (.inl rfl) rfl) (by decide))

/-- The ranks of the blocks from `o` on, one for each of the words left. -/
def rankP (B : Bufs) (pos1 : FVec F S1x128 .f32) (total : FVec F S1x1 .f32) : (ws : List (BitVec 32)) → (o : Nat) →
    o + 128 * ws.length = 5120 → FVec F S1x1 .f32 → KProg F PUnit
  | [], _, _, _ => pure ⟨⟩
  | w :: ws, o, h, koff => do
    let row ← ldR B.alive o 128 (by simp only [List.length_cons] at h; omega) (by decide)
    stR B.dest o 128 (by simp only [List.length_cons] at h; omega) (by decide)
      (destP pos1 w total koff row)
    rankP B pos1 total ws (o + 128) (by simp only [List.length_cons] at h; omega) (koffP koff row)

/-- The table of which box goes where. -/
def selP (dest : FVec F S1x5120 .f32) : FVec F S304x5120 .f32 :=
  select
    (cmpi .eq (broadcastTo S304x5120 (fptosi 32 dest) (by decide))
      (iota .tc S304x5120 32 [0] (by decide)))
    (broadcast S304x5120 (cst F 0x3F800000#32)) (broadcast S304x5120 (cst F 0x00000000#32))

/-- The selected entries of a row, as a column. -/
def pickC (m : FVec F S304x5120 .f32) (row : FVec F S1x5120 .f32) : FVec F S304x1 .f32 :=
  matmul dot_S304x5120_S1x5120_S304x1_1_1_0_0_n_n (some .fp32) m row (constant S304x1 .f32 0x00000000#32)

def oboxP (m : FVec F S304x5120 .f32) (x1 y1 x2 y2 : FVec F S1x5120 .f32) : FVec F S304x4 .f32 :=
  concatenate S304x4 1 [⟨S304x1, pickC m x1⟩, ⟨S304x1, pickC m y1⟩, ⟨S304x1, pickC m x2⟩,
    ⟨S304x1, pickC m y2⟩] Facts₀.concatenates_S304x1_S304x1_S304x1_S304x1_S304x4_d1

def osP (m : FVec F S304x5120 .f32) (al s : FVec F S1x5120 .f32) : FVec F S1x304 .f32 :=
  matmul dot_S1x5120_S304x5120_S1x304_1_1_0_0_n_n (some .fp32)
    (select (cmpf .ogt al (broadcast S1x5120 (cst F 0x3F000000#32))) s
      (broadcast S1x5120 (cst F 0xBF800000#32))) m (constant S1x304 .f32 0x00000000#32)

/-- A store over the whole of the boxes' buffer. -/
def stObox (B : Bufs) (v : FVec F S304x4 .f32) : KProg F PUnit := do
  let _ ← Prog.lift (.load B.obox (Rect.unit (s := S304x4) ![0, 0] S304x4.size (by decide)).toLoadRect
    (View.loadsAt_vmem (by decide)))
  Prog.lift (.store B.obox (Rect.unit (s := S304x4) ![0, 0] S304x4.size (by decide)) v
    Finset.univ (View.stores_vmem_bits_univ (by decide) rfl) (.inl rfl))

/-- A store over the whole of the scores' buffer. -/
def stOs (B : Bufs) (v : FVec F S1x304 .f32) : KProg F PUnit := do
  let _ ← Prog.lift (.load B.os (Rect.unit (s := S1x304) ![0, 0] S1x304.size (by decide)).toLoadRect
    (View.loadsAt_vmem (by decide)))
  Prog.lift (.store B.os (Rect.unit (s := S1x304) ![0, 0] S1x304.size (by decide)) v
    Finset.univ (View.stores_vmem_bits_univ (by decide) rfl) (.inl rfl))

/-- The selection of the boxes by the destinations written; the table is kept for the scores. -/
def pick (B : Bufs) : KProg F (FVec F S304x5120 .f32) := do
  let d ← ldR B.dest 0 5120 (by decide) (by decide)
  let x1 ← ldR B.x1 0 5120 (by decide) (by decide)
  let y1 ← ldR B.y1 0 5120 (by decide) (by decide)
  let x2 ← ldR B.x2 0 5120 (by decide) (by decide)
  let y2 ← ldR B.y2 0 5120 (by decide) (by decide)
  stObox B (oboxP (selP d) (shapeCast S1x5120 x1 rfl) (shapeCast S1x5120 y1 rfl)
    (shapeCast S1x5120 x2 rfl) (shapeCast S1x5120 y2 rfl))
  pure (selP d)

/-- The ranks, and the results by selection. -/
def finish (B : Bufs) (s : FVec F S1x5120 .f32) : KProg F PUnit := do
  let al ← ldR B.alive 0 5120 (by decide) (by decide)
  rankP B pos1P (totalP al) offW 0 (by decide) (broadcast S1x1 (cst F 0x00000000#32))
  let m ← pick B
  stOs B (osP m al s)

/-! ## The long iteration -/

/-- A call of a loop: its table, the block's part of the mask, the kept boxes, and whether to go on. -/
abbrev Call (F : FTy → Type) [FloatOps F] [Facts] :=
  FVec F S128x128 .f32 → FVec F S128x1 .f32 → FVec F S128x1 .f32 → BitVec 1 →
    KProg F (FVec F S128x1 .f32 × BitVec 1)

/-- The call of a label. -/
def callL (n : (Λ₀ F).Label) (a : (Λ₀ F).Args n) :
    Prog (TpuEff nD τ sig (Elt F) (Λ₀ F) .tc) ((Λ₀ F).Result n) := Prog.lift (.call n a)

/-- The loops of the blocks, in order. -/
def calls (v : BitVec 1) (h : k0_cond1 v = 1#1) : List (Call F) :=
  [fun a b c d => callL 1 ⟨v, h, a, b, c, d⟩,
   fun a b c d => callL 2 ⟨v, h, a, b, c, d⟩,
   fun a b c d => callL 3 ⟨v, h, a, b, c, d⟩,
   fun a b c d => callL 4 ⟨v, h, a, b, c, d⟩,
   fun a b c d => callL 5 ⟨v, h, a, b, c, d⟩,
   fun a b c d => callL 6 ⟨v, h, a, b, c, d⟩,
   fun a b c d => callL 7 ⟨v, h, a, b, c, d⟩,
   fun a b c d => callL 8 ⟨v, h, a, b, c, d⟩,
   fun a b c d => callL 9 ⟨v, h, a, b, c, d⟩,
   fun a b c d => callL 10 ⟨v, h, a, b, c, d⟩,
   fun a b c d => callL 11 ⟨v, h, a, b, c, d⟩,
   fun a b c d => callL 12 ⟨v, h, a, b, c, d⟩,
   fun a b c d => callL 13 ⟨v, h, a, b, c, d⟩,
   fun a b c d => callL 14 ⟨v, h, a, b, c, d⟩,
   fun a b c d => callL 15 ⟨v, h, a, b, c, d⟩,
   fun a b c d => callL 16 ⟨v, h, a, b, c, d⟩,
   fun a b c d => callL 17 ⟨v, h, a, b, c, d⟩,
   fun a b c d => callL 18 ⟨v, h, a, b, c, d⟩,
   fun a b c d => callL 19 ⟨v, h, a, b, c, d⟩,
   fun a b c d => callL 20 ⟨v, h, a, b, c, d⟩,
   fun a b c d => callL 21 ⟨v, h, a, b, c, d⟩,
   fun a b c d => callL 22 ⟨v, h, a, b, c, d⟩,
   fun a b c d => callL 23 ⟨v, h, a, b, c, d⟩,
   fun a b c d => callL 24 ⟨v, h, a, b, c, d⟩,
   fun a b c d => callL 25 ⟨v, h, a, b, c, d⟩,
   fun a b c d => callL 26 ⟨v, h, a, b, c, d⟩,
   fun a b c d => callL 27 ⟨v, h, a, b, c, d⟩,
   fun a b c d => callL 28 ⟨v, h, a, b, c, d⟩,
   fun a b c d => callL 29 ⟨v, h, a, b, c, d⟩,
   fun a b c d => callL 30 ⟨v, h, a, b, c, d⟩,
   fun a b c d => callL 31 ⟨v, h, a, b, c, d⟩,
   fun a b c d => callL 32 ⟨v, h, a, b, c, d⟩,
   fun a b c d => callL 33 ⟨v, h, a, b, c, d⟩,
   fun a b c d => callL 34 ⟨v, h, a, b, c, d⟩,
   fun a b c d => callL 35 ⟨v, h, a, b, c, d⟩,
   fun a b c d => callL 36 ⟨v, h, a, b, c, d⟩,
   fun a b c d => callL 37 ⟨v, h, a, b, c, d⟩,
   fun a b c d => callL 38 ⟨v, h, a, b, c, d⟩,
   fun a b c d => callL 39 ⟨v, h, a, b, c, d⟩,
   fun a b c d => callL 40 ⟨v, h, a, b, c, d⟩]

/-- Four steps. -/
def step4 (sl : FVec F S128x128 .f32) (col keep : FVec F S128x1 .f32) : FVec F S128x1 .f32 :=
  stepP sl col (stepP sl col (stepP sl col (stepP sl col keep)))

/-- What the last of four steps changes. -/
def diff4 (sl : FVec F S128x128 .f32) (col keep : FVec F S128x1 .f32) : FVec F S128x1 .f32 :=
  absf (subf (step4 sl col keep) (stepP sl col (stepP sl col (stepP sl col keep))))

/-- A loop's body. -/
def whileP (again : Call F) : Call F := fun sl col keep go =>
  if go = 1#1 then again sl col (step4 sl col keep) (someC (diff4 sl col keep)) else pure (keep, go)

/-- The long iteration: a loop until a step changes nothing. -/
def itLong (call : Call F) : Iter F := fun sl col acc => do
  let ⟨keep, _⟩ ← call sl col col 1#1
  pure ⟨keep, acc⟩

/-! ## The whole body -/

/-- The second pass, run when the first one's sum is above zero. -/
def again (B : Bufs) (v : BitVec 1) (valid : FVec F S1x5120 .f32) : KProg F PUnit :=
  if h : k0_cond1 v = 1#1 then do
    let _ ← pass B ((calls v h).map itLong) rfl valid
    pure ⟨⟩
  else pure ⟨⟩

/-- The kernel's body. -/
def body (B : Bufs) : KProg F PUnit := do
  let s ← ldR B.s 0 5120 (by decide) (by decide)
  let acc ← pass B (List.replicate 40 itShort) rfl (validP (shapeCast S1x5120 s rfl))
  again B (someC acc) (validP (shapeCast S1x5120 s rfl))
  finish B (shapeCast S1x5120 s rfl)

/-! ## The same body, grouped as it is printed

The printed text is cut into windows, and a cut inside the ranks' first block hands its partial
results on. -/

/-- What the window of the second pass hands on. -/
abbrev Cut (F : FTy → Type) : Type :=
  Σ' (_ : Vec F S1x5120 .f32) (_ : FVec F S1x1 .f32) (_ : FVec F S1x128 .f32) (_ : FVec F S1x1 .f32)
    (_ : Vec F S1x128 .f32) (_ : IVec S1x128 1) (_ : FVec F S1x128 .f32) (_ : FVec F S1x128 .f32),
    FVec F S1x128 .f32

/-- The beginning of the ranks. -/
def cutR (B : Bufs) : KProg F (Cut F) := do
  let al ← ldR B.alive 0 5120 (by decide) (by decide)
  let row ← ldR B.alive 0 128 (by decide) (by decide)
  pure ⟨al, totalP al, pos1P, broadcast S1x1 (cst F 0x00000000#32), row,
    cmpf .ogt row (broadcast S1x128 (cst F 0x3F000000#32)),
    subf (gkP (broadcast S1x1 (cst F 0x00000000#32)) row) (broadcast S1x128 (cst F 0x3F800000#32)),
    subf (addf (broadcastTo S1x128 (addf (totalP al) (broadcast S1x1 (cst F 0x00000000#32))) (by decide)) pos1P)
      (gkP (broadcast S1x1 (cst F 0x00000000#32)) row),
    broadcast S1x128 (cst F 0x3F800000#32)⟩

/-- The second pass and the beginning of the ranks. -/
def cutA (B : Bufs) (v : BitVec 1) (valid : FVec F S1x5120 .f32) : KProg F (Cut F) :=
  if h : k0_cond1 v = 1#1 then do
    let _ ← pass B ((calls v h).map itLong) rfl valid
    cutR B
  else cutR B

theorem cutA_eq (B : Bufs) (v : BitVec 1) (valid : FVec F S1x5120 .f32) :
    cutA (F := F) B v valid = (do again B v valid; cutR B) := by
  unfold cutA again
  split <;> simp only [bind_assoc, pure_bind]

/-- The rest of the ranks and the selection of the boxes. -/
def cutB (B : Bufs) (t : Cut F) : KProg F (Σ' (_ : Vec F S1x5120 .f32), FVec F S304x5120 .f32) := do
  stR B.dest 0 128 (by decide) (by decide)
    (select t.2.2.2.2.2.1 t.2.2.2.2.2.2.1 (subf t.2.2.2.2.2.2.2.1 t.2.2.2.2.2.2.2.2))
  rankP B t.2.2.1 t.2.1 offW.tail 128 (by decide) (koffP t.2.2.2.1 t.2.2.2.2.1)
  let m ← pick B
  pure ⟨t.1, m⟩

/-- The kernel's body, grouped as printed. -/
def bodyCut (B : Bufs) : KProg F PUnit := do
  let s ← ldR B.s 0 5120 (by decide) (by decide)
  let acc ← pass B (List.replicate 40 itShort) rfl (validP (shapeCast S1x5120 s rfl))
  let u ← (do
    let t ← cutA B (someC acc) (validP (shapeCast S1x5120 s rfl))
    cutB B t)
  stOs B (osP u.2 u.1 (shapeCast S1x5120 s rfl))

/-- The grouping makes no difference. -/
theorem bodyCut_eq (B : Bufs) : bodyCut (F := F) B = body B := by
  simp only [bodyCut, body, cutA_eq, cutR, cutB, finish, bind_assoc, pure_bind]
  rfl

end Cert.KernelIdeal.Nms
-- ==== Proof.Nms.StructEq.lean ====
module

public import proofs.«01_k».proof.Proof.Nms.Struct
public import Idealize.ShloMosaic.Lib.Pipeline.Regions

/-! # The printed body is the body block by block -/

set_option maxRecDepth 16384

@[expose] public section

noncomputable section

namespace Cert.KernelIdeal.Nms

open Idealize.ShloMosaic Idealize.SL.Sem Cert.KernelIdeal

variable {F : FTy → Type} [FloatOps F] [Facts]

theorem while1_eq (v : BitVec 1) (h : k0_cond1 v = 1#1) (sl : FVec F S128x128 .f32)
    (col keep : FVec F S128x1 .f32) (go : BitVec 1) :
    cc0_while1 v h sl col keep go = whileP (fun a b c d => callL 1 ⟨v, h, a, b, c, d⟩) sl col keep go := by
  chain_rfl

/-- The printed body is the body block by block. -/
theorem body_eq (arg0 : Memref sig .tc .vmem S1x5120 .f32)
    (harg0 : arg0.IsWhole)
    (arg1 : Memref sig .tc .vmem S1x5120 .f32)
    (harg1 : arg1.IsWhole)
    (arg2 : Memref sig .tc .vmem S1x5120 .f32)
    (harg2 : arg2.IsWhole)
    (arg3 : Memref sig .tc .vmem S1x5120 .f32)
    (harg3 : arg3.IsWhole)
    (arg4 : Memref sig .tc .vmem S1x5120 .f32)
    (harg4 : arg4.IsWhole)
    (arg5 : Memref sig .tc .vmem S5120x1 .f32)
    (harg5 : arg5.IsWhole)
    (arg6 : Memref sig .tc .vmem S5120x1 .f32)
    (harg6 : arg6.IsWhole)
    (arg7 : Memref sig .tc .vmem S5120x1 .f32)
    (harg7 : arg7.IsWhole)
    (arg8 : Memref sig .tc .vmem S5120x1 .f32)
    (harg8 : arg8.IsWhole)
    (arg9 : Memref sig .tc .vmem S304x4 .f32)
    (harg9 : arg9.IsWhole)
    (arg10 : Memref sig .tc .vmem S1x304 .f32)
    (harg10 : arg10.IsWhole)
    (arg11 : Memref sig .tc .vmem S1x5120 .f32)
    (harg11 : arg11.IsWhole)
    (arg12 : Memref sig .tc .vmem S1x5120 .f32)
    (harg12 : arg12.IsWhole) :
    cc0__nms_kernel (F := F) arg0 harg0 arg1 harg1 arg2 harg2 arg3 harg3 arg4 harg4 arg5 harg5 arg6 harg6 arg7 harg7 arg8 harg8 arg9 harg9 arg10 harg10 arg11 harg11 arg12 harg12
      = bodyCut ⟨arg0, arg1, arg2, arg3, arg4, arg5, arg6, arg7, arg8, arg9, arg10, arg11, arg12⟩ := by
  chain_rfl

end Cert.KernelIdeal.Nms
-- ==== Proof.Nms.Val.lean ====
module

public import proofs.«01_k».proof.Proof.Nms.Struct
public import Idealize.ShloMosaic.Lib.MatmulPlain
public import Idealize.ShloMosaic.Lib.IdealHost
public import Idealize.ShloMosaic.Lib.ValueIdx
public import Idealize.ShloMosaic.Lib.Pointwise.Reshape

/-!
# What the operations of a block compute

Over the extended reals every mask is a row or a column of zeros and ones, so it is written as the
property of the places where it is one.
-/

set_option maxRecDepth 16384

@[expose] public section

noncomputable section

namespace Cert.KernelIdeal.Nms

open Idealize.ShloMosaic Cert.KernelIdeal Idealize.ShloMosaic.ValueIdx
open scoped BigOperators
open Classical

variable [Facts]

/-- A row of the first `n` of a list of numbers. -/
def row {F : FTy → Type} (n : ℕ) (A : ℕ → F .f32) : FVec F (Rw n) .f32 := fun i => A (i 1).val

/-- A column of the first `n` of a list of numbers. -/
def col {F : FTy → Type} (n : ℕ) (A : ℕ → F .f32) : FVec F ⟨2, ![n, 1]⟩ .f32 := fun i => A (i 0).val

/-- One when `p` holds and zero otherwise. -/
def bit (p : Prop) : EReal := @ite _ p (propDecidable p) 1 0

theorem bit_pos {p : Prop} (h : p) : bit p = 1 := if_pos h
theorem bit_neg {p : Prop} (h : ¬p) : bit p = 0 := if_neg h
theorem bit_congr {p q : Prop} (h : p ↔ q) : bit p = bit q := congrArg bit (propext h)

theorem bit_mul (a b : Prop) : bit a * bit b = bit (a ∧ b) := by
  unfold bit
  by_cases ha : a <;> by_cases hb : b <;> simp [ha, hb]

theorem bit_nonneg (p : Prop) : 0 ≤ bit p := by
  by_cases h : p
  · rw [bit_pos h]; exact zero_le_one
  · rw [bit_neg h]

/-- Ones where `p` holds and zeros elsewhere. -/
def ind (p : ℕ → Prop) : ℕ → Ideal .f32 := fun j => bit (p j)

/-- A table of ones where `r` holds and zeros elsewhere. -/
def tbl (n : ℕ) (r : ℕ → ℕ → Prop) : FVec Ideal (Mx n) .f32 :=
  fun i => bit (r (i 0).val (i 1).val)

/-- One half. -/
abbrev half : EReal := Ideal.ofBits .f32 0x3F000000#32

theorem half_eq : half = ((1 / 2 : ℝ) : EReal) := by
  simp [half, Ideal.ofBits, Ideal.ieee]
  rw [← EReal.coe_mul]
  norm_num

theorem half_pos : (0 : EReal) < half := by
  rw [half_eq]; exact_mod_cast (by norm_num : (0 : ℝ) < 1 / 2)

theorem half_lt_one : half < (1 : EReal) := by
  rw [half_eq]; exact_mod_cast (by norm_num : (1 / 2 : ℝ) < 1)

theorem one_word : (Ideal.ofBits .f32 0x3F800000#32 : EReal) = 1 := Ideal.ofBits_one_f32
theorem zero_word : (Ideal.ofBits .f32 0x00000000#32 : EReal) = 0 := Ideal.ofBits_zero_f32

/-- A choice by a decided bit. -/
theorem pick_bit {α : Type} (p : Prop) (b : BitVec 1) (hb : b = 1#1 ↔ p) (x y : α) :
    Scalar.select b x y = if p then x else y := by
  show (if b = 1#1 then x else y) = _
  by_cases h : p
  · rw [if_pos h, if_pos (hb.2 h)]
  · rw [if_neg h, if_neg (fun e => h (hb.1 e))]

theorem pick_ones (p : Prop) (b : BitVec 1) (hb : b = 1#1 ↔ p) :
    Scalar.select b (Ideal.ofBits .f32 0x3F800000#32 : EReal) (Ideal.ofBits .f32 0x00000000#32) = bit p := by
  rw [one_word, zero_word]
  exact pick_bit p b hb 1 0

theorem pick_zeros (p : Prop) (b : BitVec 1) (hb : b = 1#1 ↔ p) :
    Scalar.select b (Ideal.ofBits .f32 0x00000000#32 : EReal) (Ideal.ofBits .f32 0x3F800000#32) = bit ¬p := by
  rw [one_word, zero_word, pick_bit p b hb]
  by_cases h : p
  · rw [if_pos h, bit_neg (fun e => e h)]
  · rw [if_neg h, bit_pos h]

theorem bit_decide (p : Prop) [Decidable p] : BitVec.ofBool (decide p) = 1#1 ↔ p := by
  by_cases h : p <;> simp [h]

theorem bit_bool (b : Bool) : BitVec.ofBool b = 1#1 ↔ b = true := by
  cases b <;> simp

theorem cmp_gt (x y : EReal) : FloatOps.cmpf (F := Ideal) (φ := .f32) .ogt x y = 1#1 ↔ y < x := bit_decide _
theorem cmp_lt (x y : EReal) : FloatOps.cmpf (F := Ideal) (φ := .f32) .olt x y = 1#1 ↔ x < y := bit_decide _

/-- The places of a block number as 32-bit words do, up to their order. -/
theorem word_eq {i j : ℕ} (hi : i < 2 ^ 31) (hj : j < 2 ^ 31) :
    IntOp.cmpi .eq (BitVec.ofNat 32 i) (BitVec.ofNat 32 j) = 1#1 ↔ i = j := by
  unfold IntOp.cmpi
  rw [bit_bool]
  simp only [beq_iff_eq]
  constructor
  · intro h
    have := congrArg BitVec.toNat h
    simp only [BitVec.toNat_ofNat] at this
    omega
  · rintro rfl; rfl

theorem word_int {i : ℕ} (hi : i < 2 ^ 31) : (BitVec.ofNat 32 i).toInt = i := by
  rw [BitVec.toInt_eq_toNat_cond, BitVec.toNat_ofNat]
  have : i % 2 ^ 32 = i := Nat.mod_eq_of_lt (by omega)
  rw [this, if_pos (by omega)]

theorem word_lt {i j : ℕ} (hi : i < 2 ^ 31) (hj : j < 2 ^ 31) :
    IntOp.cmpi .slt (BitVec.ofNat 32 i) (BitVec.ofNat 32 j) = 1#1 ↔ i < j := by
  unfold IntOp.cmpi
  rw [bit_bool, BitVec.slt_iff_toInt_lt, word_int hi, word_int hj]
  omega

theorem word_le {i j : ℕ} (hi : i < 2 ^ 31) (hj : j < 2 ^ 31) :
    IntOp.cmpi .sle (BitVec.ofNat 32 i) (BitVec.ofNat 32 j) = 1#1 ↔ i ≤ j := by
  unfold IntOp.cmpi
  rw [bit_bool, BitVec.sle_iff_toInt_le, word_int hi, word_int hj]
  omega

/-- A number of the first or second coordinate, as the word of it. -/
theorem axis0 (n m : ℕ) (h) (i : (⟨2, ![n, m]⟩ : Shape).Idx) :
    iota .tc (⟨2, ![n, m]⟩ : Shape) 32 [0] h i = BitVec.ofNat 32 (i 0).val := by
  show BitVec.ofNat 32 (0 * _ + (i 0).val) = _
  rw [Nat.zero_mul, Nat.zero_add]

theorem axis1 (n m : ℕ) (h) (i : (⟨2, ![n, m]⟩ : Shape).Idx) :
    iota .tc (⟨2, ![n, m]⟩ : Shape) 32 [1] h i = BitVec.ofNat 32 (i 1).val := by
  show BitVec.ofNat 32 (0 * _ + (i 1).val) = _
  rw [Nat.zero_mul, Nat.zero_add]

theorem lt0 {n m : ℕ} (i : (⟨2, ![n, m]⟩ : Shape).Idx) : (i 0).val < n := (i 0).isLt
theorem lt1 {n m : ℕ} (i : (⟨2, ![n, m]⟩ : Shape).Idx) : (i 1).val < m := (i 1).isLt

/-- Ones and zeros chosen by a bit that decides `r`. -/
theorem table_eq (n : ℕ) (r : ℕ → ℕ → Prop) (b : IVec (Mx n) 1)
    (hb : ∀ i, b i = 1#1 ↔ r (i 0).val (i 1).val) :
    select b (broadcast (Mx n) (cst Ideal 0x3F800000#32)) (broadcast (Mx n) (cst Ideal 0x00000000#32)) = tbl n r := by
  funext i
  exact pick_ones _ _ (hb i)

theorem eyeP_eq : eyeP (F := Ideal) = tbl 128 (fun i j => i = j) :=
  table_eq 128 _ _ fun i => by
    show IntOp.cmpi .eq (iota .tc S128x128 32 [0] _ i) (iota .tc S128x128 32 [1] _ i) = 1#1 ↔ _
    rw [axis0, axis1]
    have h0 := lt0 i; have h1 := lt1 i
    exact word_eq (by omega) (by omega)

theorem ltiP_eq : ltiP (F := Ideal) = tbl 128 (fun i j => i ≤ j) :=
  table_eq 128 _ _ fun i => by
    show IntOp.cmpi .sle (iota .tc S128x128 32 [0] _ i) (iota .tc S128x128 32 [1] _ i) = 1#1 ↔ _
    rw [axis0, axis1]
    have h0 := lt0 i; have h1 := lt1 i
    exact word_le (by omega) (by omega)

theorem lowP_iff (i : S128x128.Idx) : lowP i = 1#1 ↔ (i 1).val < (i 0).val := by
  show IntOp.cmpi .slt (iota .tc S128x128 32 [1] _ i) (iota .tc S128x128 32 [0] _ i) = 1#1 ↔ _
  rw [axis0, axis1]
  have h0 := lt0 i; have h1 := lt1 i
  exact word_lt (by omega) (by omega)

theorem and_iff (a b : BitVec 1) : a &&& b = 1#1 ↔ a = 1#1 ∧ b = 1#1 := by
  revert a b; decide

/-! ## Products with the tables -/

/-- A sum with one term that is not zero. -/
theorem sum_one (n : ℕ) (i : ℕ) (hi : i < n) (A : ℕ → EReal) :
    ∑ k : Fin n, bit (i = k.val) * A k.val = A i := by
  rw [Finset.sum_eq_single (⟨i, hi⟩ : Fin n)]
  · rw [bit_pos rfl, one_mul]
  · intro k _ hk
    rw [bit_neg (fun e => hk (Fin.ext e.symm)), zero_mul]
  · intro h; exact absurd (Finset.mem_univ _) h

/-- A row turned into a column. -/
theorem trP_row (A : ℕ → Ideal .f32) : trP (row 128 A) = col 128 A := by
  funext j
  obtain ⟨r, c, rfl⟩ : ∃ r c, j = ValueIdx.ix2 r c := ⟨_, _, ValueIdx.eq_ix2 j⟩
  unfold trP
  rw [eyeP_eq]
  show FloatOps.matmul (DotDims.transposedRhs 128 128 1) none (tbl 128 fun i j => i = j) (row 128 A) _ (ValueIdx.ix2 r c) = _
  rw [Ideal.matmul_transposedRhs_apply]
  show Ideal.ofBits .f32 0x00000000#32 + ∑ k : Fin 128, bit (r.val = k.val) * A k.val = A r.val
  rw [zero_word, zero_add]
  exact sum_one 128 r.val r.isLt A

/-- A column turned into a row. -/
theorem rowP_col (A : ℕ → Ideal .f32) : rowP (col 128 A) = row 128 A := by
  funext j
  obtain ⟨r, c, rfl⟩ : ∃ r c, j = ValueIdx.ix2 r c := ⟨_, _, ValueIdx.eq_ix2 j⟩
  unfold rowP
  rw [eyeP_eq]
  show FloatOps.matmul dot_S128x1_S128x128_S1x128_0_0_1_1_n_n none (col 128 A) (tbl 128 fun i j => i = j) _ (ValueIdx.ix2 r c) = _
  rw [Ideal.matmul_apply, ← Equiv.sum_comp (contrEquiv1 dot_S128x1_S128x128_S1x128_0_0_1_1_n_n 128 rfl rfl).symm]
  show Ideal.ofBits .f32 0x00000000#32 + _ = A c.val
  rw [zero_word, zero_add, ← sum_one 128 c.val c.isLt A]
  refine Finset.sum_congr rfl fun k _ => ?_
  have hk := contrEquiv1_symm_val dot_S128x1_S128x128_S1x128_0_0_1_1_n_n 128 rfl rfl k
  rw [mul_comm]
  refine congrArg₂ (· * ·) ?_ (congrArg A hk)
  refine bit_congr ⟨fun e => ?_, fun e => ?_⟩
  · exact (show c.val = _ from e.symm).trans hk
  · exact hk.trans e.symm

theorem half_lt_bit (p : Prop) : half < bit p ↔ p := by
  by_cases h : p
  · rw [bit_pos h]; exact ⟨fun _ => h, fun _ => half_lt_one⟩
  · rw [bit_neg h]; exact ⟨fun e => absurd e (not_lt.2 half_pos.le), fun e => absurd e h⟩

/-- A sum of ones and zeros is below one half when all of them are zero. -/
theorem sum_ind_lt (n : ℕ) (p : ℕ → Prop) :
    ∑ k : Fin n, bit (p k.val) < half ↔ ¬∃ k < n, p k := by
  have h0 : ∀ k ∈ (Finset.univ : Finset (Fin n)), (0 : EReal) ≤ bit (p k.val) := fun k _ => bit_nonneg _
  constructor
  · rintro h ⟨k, hk, hp⟩
    have := Finset.single_le_sum h0 (Finset.mem_univ (⟨k, hk⟩ : Fin n))
    rw [bit_pos (show p (⟨k, hk⟩ : Fin n).val from hp)] at this
    exact absurd (lt_of_le_of_lt this h) (not_lt.2 half_lt_one.le)
  · intro h
    rw [Finset.sum_eq_zero (fun k _ => bit_neg (fun hp => h ⟨k.val, k.isLt, hp⟩))]
    exact half_pos

/-- One step of a block's iteration: a box stays when it is in the mask and no box kept suppresses it. -/
def next1 (p : ℕ → Prop) (r : ℕ → ℕ → Prop) (q : ℕ → Prop) : ℕ → Prop :=
  fun i => p i ∧ ¬∃ j < 128, r i j ∧ q j

theorem stepP_eq (r : ℕ → ℕ → Prop) (p q : ℕ → Prop) :
    stepP (tbl 128 r) (col 128 (ind p)) (col 128 (ind q)) = col 128 (ind (next1 p r q)) := by
  funext j
  obtain ⟨a, c, rfl⟩ : ∃ r c, j = ValueIdx.ix2 r c := ⟨_, _, ValueIdx.eq_ix2 j⟩
  have hm : matmul dot_S128x128_S128x1_S128x1_1_0_0_1_n_n none (tbl 128 r) (col 128 (ind q))
      (constant S128x1 .f32 0x00000000#32) (ValueIdx.ix2 a c) = ∑ k : Fin 128, bit (r a.val k.val ∧ q k.val) := by
    show FloatOps.matmul (DotDims.plain 128 128 1) none (tbl 128 r) (col 128 (ind q)) _ (ValueIdx.ix2 a c) = _
    rw [Ideal.matmul_plain_apply]
    show Ideal.ofBits .f32 0x00000000#32 + ∑ k : Fin 128, bit (r a.val k.val) * bit (q k.val) = _
    rw [zero_word, zero_add]
    exact Finset.sum_congr rfl fun k _ => bit_mul _ _
  have hs := pick_ones (¬∃ k < 128, r a.val k ∧ q k) (FloatOps.cmpf (F := Ideal) (φ := .f32) .olt
    (matmul dot_S128x128_S128x1_S128x1_1_0_0_1_n_n none (tbl 128 r) (col 128 (ind q))
      (constant S128x1 .f32 0x00000000#32) (ValueIdx.ix2 a c)) half)
    (by rw [cmp_lt, hm]; exact sum_ind_lt 128 fun k => r a.val k ∧ q k)
  exact (congrArg (bit (p a.val) * ·) hs).trans (bit_mul _ _)

/-! ## Sums over a column -/

theorem sumC_eq (A : ℕ → Ideal .f32) : sumC (col 128 A) = ∑ k : Fin 128, (A k.val : EReal) := by
  unfold sumC
  show shapeCast S1x1x1 _ _ _ = _
  unfold shapeCast
  refine (Ideal.multiReduction_add_total _ _ _ (fun b => by fin_cases b; rfl) _ _ _).trans ?_
  show ∑ i : S1x128x1.Idx, shapeCast S1x128x1 (col 128 A) _ i = _
  rw [show (∑ i : S1x128x1.Idx, shapeCast S1x128x1 (col 128 A) (by decide) i) = ∑ i : S128x1.Idx, col 128 A i from
    Equiv.sum_comp (Shape.reshapeEquiv (s := S128x1) (s' := S1x128x1) (by decide)) (col 128 A)]
  rw [ValueIdx.sum_idx2]
  refine Finset.sum_congr rfl fun k _ => ?_
  rw [Fin.sum_univ_one]
  rfl

/-- A sum of numbers that are not negative is positive when one of them is not zero. -/
theorem someC_iff (A : ℕ → Ideal .f32) (h0 : ∀ i < 128, (0 : EReal) ≤ A i) :
    someC (col 128 A) = 1#1 ↔ ∃ i < 128, A i ≠ (0 : EReal) := by
  unfold someC
  show FloatOps.cmpf (F := Ideal) (φ := .f32) .ogt (sumC (col 128 A)) (Ideal.ofBits .f32 0x00000000#32) = 1#1 ↔ _
  rw [zero_word, cmp_gt, sumC_eq]
  have hn : ∀ k ∈ (Finset.univ : Finset (Fin 128)), (0 : EReal) ≤ A k.val := fun k _ => h0 k.val k.isLt
  constructor
  · intro h
    by_contra hc
    push Not at hc
    rw [Finset.sum_eq_zero (fun k _ => hc k.val k.isLt)] at h
    exact lt_irrefl _ h
  · rintro ⟨i, hi, hA⟩
    refine lt_of_le_of_ne (Finset.sum_nonneg hn) (fun e => hA ?_)
    exact (Finset.sum_eq_zero_iff_of_nonneg hn).1 e.symm ⟨i, hi⟩ (Finset.mem_univ _)

/-- Where two properties differ. -/
def differ (p q : ℕ → Prop) : ℕ → Prop := fun i => ¬(p i ↔ q i)

theorem change_eq (p q : ℕ → Prop) :
    absf (subf (col 128 (ind p)) (col 128 (ind q))) = col 128 (ind (differ p q)) := by
  funext i
  show max (bit (p (i 0).val) - bit (q (i 0).val)) (-(bit (p (i 0).val) - bit (q (i 0).val))) = bit (differ p q (i 0).val)
  unfold differ bit
  have h1 : (-1 : EReal) ≤ 1 := by
    rw [← EReal.coe_one, ← EReal.coe_neg]
    exact_mod_cast (by norm_num : (-1 : ℝ) ≤ 1)
  by_cases hp : p (i 0).val <;> by_cases hq : q (i 0).val <;> simp [hp, hq, h1]
  · have : (1 : EReal) - 1 = 0 := by
      rw [← EReal.coe_one, ← EReal.coe_sub, sub_self, EReal.coe_zero]
    rw [this]; simp

/-! ## Overlaps -/

/-- The overlap of the box `(a, b, c, d)` of area `ar` with the box `(x1, y1, x2, y2)`, in the
kernel's order of operations. -/
def inter (a b c d x1 y1 x2 y2 : EReal) : EReal :=
  max (min c x2 - max a x1) 0 * max (min d y2 - max b y1) 0

def quo (ar a b c d x1 y1 x2 y2 : EReal) : EReal :=
  Ideal.div (inter a b c d x1 y1 x2 y2) (ar + (x2 - x1) * (y2 - y1) - inter a b c d x1 y1 x2 y2)

def area (a b c d : EReal) : EReal := (c - a) * (d - b)

theorem bcol {F : FTy → Type} (n : ℕ) (A : ℕ → F .f32) (i : (Mx n).Idx) :
    broadcastTo (Mx n) (col 128 A) (bc_col n) i = A (i 0).val := rfl

theorem brow {F : FTy → Type} (n : ℕ) (A : ℕ → F .f32) (i : (Mx n).Idx) :
    broadcastTo (Mx n) (row n A) (bc_row n) i = A (i 1).val := by
  unfold broadcastTo row
  show A _ = A _
  congr 1
  by_cases h : n = 1
  · have := lt1 i
    refine (congrArg Fin.val (dif_pos h)).trans ?_
    show 0 = (i 1).val
    omega
  · exact congrArg Fin.val (dif_neg h)

theorem overP_iff (n : ℕ) (ar a b c d x1 y1 x2 y2 : ℕ → Ideal .f32) (i : (Mx n).Idx) :
    overP n (col 128 ar) (col 128 a) (col 128 b) (col 128 c) (col 128 d) (row n x1) (row n y1) (row n x2) (row n y2) i = 1#1
      ↔ half < quo (ar (i 0).val) (a (i 0).val) (b (i 0).val) (c (i 0).val) (d (i 0).val)
          (x1 (i 1).val) (y1 (i 1).val) (x2 (i 1).val) (y2 (i 1).val) := by
  have hi : interP n (col 128 a) (col 128 b) (col 128 c) (col 128 d) (row n x1) (row n y1) (row n x2) (row n y2) i
      = inter (a (i 0).val) (b (i 0).val) (c (i 0).val) (d (i 0).val) (x1 (i 1).val) (y1 (i 1).val) (x2 (i 1).val) (y2 (i 1).val) := by
    show max (min (broadcastTo (Mx n) (col 128 c) (bc_col n) i) (broadcastTo (Mx n) (row n x2) (bc_row n) i)
        - max (broadcastTo (Mx n) (col 128 a) (bc_col n) i) (broadcastTo (Mx n) (row n x1) (bc_row n) i)) (Ideal.ofBits .f32 0x00000000#32)
      * max (min (broadcastTo (Mx n) (col 128 d) (bc_col n) i) (broadcastTo (Mx n) (row n y2) (bc_row n) i)
        - max (broadcastTo (Mx n) (col 128 b) (bc_col n) i) (broadcastTo (Mx n) (row n y1) (bc_row n) i)) (Ideal.ofBits .f32 0x00000000#32) = _
    simp only [bcol, brow, zero_word]
    rfl
  have hr : mulf (subf (row n x2) (row n x1)) (subf (row n y2) (row n y1)) = row (F := Ideal) n (fun k => (x2 k - x1 k : EReal) * (y2 k - y1 k)) := rfl
  unfold overP
  rw [hr]
  show FloatOps.cmpf (F := Ideal) (φ := .f32) .ogt (Ideal.div _ (broadcastTo (Mx n) (col 128 ar) (bc_col n) i + broadcastTo (Mx n) (row (F := Ideal) n _) (bc_row n) i - _)) half = 1#1 ↔ _
  rw [cmp_gt, hi, bcol, brow]
  rfl

/-- A block's table. -/
theorem slP_eq (a b c d x1 y1 x2 y2 : ℕ → Ideal .f32) :
    slP (col 128 a) (col 128 b) (col 128 c) (col 128 d) (row 128 x1) (row 128 y1) (row 128 x2) (row 128 y2)
      = tbl 128 (fun i j => half < quo (area (a i) (b i) (c i) (d i)) (a i) (b i) (c i) (d i) (x1 j) (y1 j) (x2 j) (y2 j) ∧ j < i) :=
  table_eq 128 _ _ fun i => by
    show overP 128 (col 128 fun k => area (a k) (b k) (c k) (d k)) (col 128 a) (col 128 b) (col 128 c) (col 128 d)
      (row 128 x1) (row 128 y1) (row 128 x2) (row 128 y2) i &&& lowP i = 1#1 ↔ _
    rw [and_iff, overP_iff, lowP_iff]

/-- The number in place of the right edge of a box that is not kept. -/
abbrev farLeft : EReal := Ideal.ofBits .f32 0xFF61B1E6#32

/-- A row times ones where nothing in the columns of a table is set. -/
theorem ones_eq (n : ℕ) (r : ℕ → ℕ → Prop) (p : ℕ → Prop) :
    mulf (row n (ind p))
      (select
        (shapeCast (Rw n)
          (cmpf .ogt
            (multiReduction .maximumf [0] (Ln n) (tbl n r) 0xFF800000#32 (red_col n) (.inl rfl) rfl)
            (broadcast (Ln n) (cst Ideal 0x00000000#32)))
          (cast_list n))
        (broadcast (Rw n) (cst Ideal 0x00000000#32)) (broadcast (Rw n) (cst Ideal 0x3F800000#32)))
      = row n (ind fun i => p i ∧ ¬∃ j < 128, r j i) := by
  funext i
  have hi := lt1 i
  have hb : shapeCast (Rw n)
          (cmpf (F := Ideal) .ogt
            (multiReduction .maximumf [0] (Ln n) (tbl n r) 0xFF800000#32 (red_col n) (.inl rfl) rfl)
            (broadcast (Ln n) (cst Ideal 0x00000000#32)))
          (cast_list n) i = 1#1 ↔ ∃ j < 128, r j (i 1).val := by
    have hk : ((Ln n).rowMajor (ValueIdx.ix1 (i 1))).val = ((Rw n).rowMajor i).val := by
      rw [Shape.rowMajor_val_one, Shape.rowMajor_val_two]
      have h0 : (i 0).val = 0 := by have := lt0 i; omega
      show (i 1).val = (i 0).val * n + (i 1).val
      rw [h0, Nat.zero_mul, Nat.zero_add]
    unfold shapeCast
    rw [Shape.reshapeEquiv_eq_of_rowMajor (cast_list n) hk]
    show FloatOps.cmpf (F := Ideal) (φ := .f32) .ogt (multiReduction .maximumf [0] (Ln n) (tbl n r) 0xFF800000#32 (red_col n) (.inl rfl) rfl (ValueIdx.ix1 (i 1)))
      (Ideal.ofBits .f32 0x00000000#32) = 1#1 ↔ _
    rw [cmp_gt, zero_word]
    refine (iff_of_eq (congrArg ((0 : EReal) < ·) (Ideal.multiReduction_maximumf_single (tbl n r) _ (red_col n) _ _ (ValueIdx.ix1 (i 1))))).trans ?_
    rw [Finset.lt_fold_max]
    constructor
    · rintro (h | ⟨k, -, h⟩)
      · exact absurd h (by
          show ¬(0 : EReal) < Ideal.ofBits .f32 0xFF800000#32
          simp [Ideal.ofBits, Ideal.ieee])
      · refine ⟨k.val, k.isLt, ?_⟩
        by_contra hc
        have e : (tbl n r ∘ (red_col n).lift (ValueIdx.ix1 (i 1))) k = (0 : EReal) := bit_neg hc
        rw [e] at h
        exact lt_irrefl _ h
    · rintro ⟨j, hj, h⟩
      refine .inr ⟨⟨j, hj⟩, Finset.mem_univ _, ?_⟩
      have e : (tbl n r ∘ (red_col n).lift (ValueIdx.ix1 (i 1))) ⟨j, hj⟩ = (1 : EReal) := bit_pos h
      rw [e]
      exact zero_lt_one
  exact (congrArg (bit (p (i 1).val) * ·) (pick_zeros _ _ hb)).trans (bit_mul _ _)

theorem tailP_eq (n : ℕ) (q p : ℕ → Prop) (a b c d x1 y1 x2 y2 : ℕ → Ideal .f32) :
    tailP n (col 128 (ind q)) (col 128 a) (col 128 b) (col 128 c) (col 128 d) (row n x1) (row n y1) (row n x2) (row n y2)
        (row n (ind p))
      = row n (ind fun i => p i ∧ ¬∃ j < 128, half < quo (area (a j) (b j) (c j) (d j)) (a j) (b j)
          (if q j then c j else farLeft) (d j) (x1 i) (y1 i) (x2 i) (y2 i)) := by
  have hc : select (cmpf .ogt (col 128 (ind q)) (broadcast S128x1 (cst Ideal 0x3F000000#32))) (col 128 c)
      (broadcast S128x1 (cst Ideal 0xFF61B1E6#32)) = col 128 (fun j => if q j then c j else farLeft) := by
    funext i
    refine pick_bit _ _ ((cmp_gt _ _).trans ?_) _ _
    exact half_lt_bit _
  unfold tailP
  rw [hc, table_eq n (fun j i => half < quo (area (a j) (b j) (c j) (d j)) (a j) (b j)
          (if q j then c j else farLeft) (d j) (x1 i) (y1 i) (x2 i) (y2 i))]
  · exact ones_eq n _ p
  · intro i
    exact overP_iff n (fun k => area (a k) (b k) (c k) (d k)) a b _ d x1 y1 x2 y2 i

/-- The boxes whose score is above the threshold. -/
theorem validP_eq (s : ℕ → Ideal .f32) :
    validP (row 5120 s) = row 5120 (ind fun i => Ideal.ofBits .f32 0x3D4CCCCD#32 < s i) := by
  funext i
  exact pick_ones _ _ (cmp_gt _ _)

end Cert.KernelIdeal.Nms
-- ==== Proof.Nms.Run.lean ====
module

public import proofs.«01_k».proof.Proof.Nms.StructEq
public import proofs.«01_k».proof.Proof.Nms.Val
public import Idealize.ShloMosaic.Lib.Tactic
public import Idealize.ShloMosaic.Lib.VecWindow
public import Idealize.ShloMosaic.Lib.Pointwise.Reshape
public import Idealize.ShloMosaic.Lib.Rounds

/-!
# What a program of the kernel does to the buffers

The nine inputs are only read. The two results and the two scratch rows are written. `Run` says
that a program started on given contents ends with a given answer and given contents.
-/

set_option maxRecDepth 16384

@[expose] public section

noncomputable section

namespace Cert.KernelIdeal.Nms

open Idealize.ShloMosaic Cert.KernelIdeal
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

/-- The rounds of the launch. -/
abbrev UR (nD : Nat) (τ : Topo) : Type := URounds (GSem nD τ sig) Unit

local notation "𝕄" => MT nD τ sig Unit (Elt F) ℕ (UR nD τ) ℕ

/-- Loops are measured by the trips still to run. -/
abbrev 𝒱₀ : Variants := Variants.nat

/-- The kernel's own buffers. -/
def B0 : Bufs :=
  ⟨Memref.whole cc0_stg0_0, Memref.whole cc0_stg1_0, Memref.whole cc0_stg2_0, Memref.whole cc0_stg3_0,
   Memref.whole cc0_stg4_0, Memref.whole cc0_stg5_0, Memref.whole cc0_stg6_0, Memref.whole cc0_stg7_0,
   Memref.whole cc0_stg8_0, Memref.whole cc0_stg9_0, Memref.whole cc0_stg10_0,
   Memref.whole cc0_scratch0, Memref.whole cc0_scratch1⟩

/-- A list of numbers from `o` on. -/
def from' (o : ℕ) (A : ℕ → F .f32) : ℕ → F .f32 := fun j => A (o + j)

/-- A list of numbers with `n` of them, from `o` on, replaced. -/
def put (o n : ℕ) (V A : ℕ → F .f32) : ℕ → F .f32 :=
  fun j => if o ≤ j ∧ j < o + n then V (j - o) else A j

/-- The contents of the inputs. The columns hold what the rows hold. -/
structure Inp (F : FTy → Type) where
  x1 : ℕ → F .f32
  y1 : ℕ → F .f32
  x2 : ℕ → F .f32
  y2 : ℕ → F .f32
  s : ℕ → F .f32

/-- The contents of what is written. -/
structure Mem (F : FTy → Type) where
  obox : FVec F S304x4 .f32
  os : FVec F S1x304 .f32
  al : ℕ → F .f32
  dest : ℕ → F .f32

/-- A buffer held at given contents. -/
abbrev pt (c : Dev nD) (b : Ref sig .tc) (f : Buf (Elt F) ((c : Thread nD τ).loc b)) : sProp 𝕄 :=
  iprop(((c : Thread nD τ).loc b) ↦{fullShare} f)

/-- All thirteen buffers held. -/
def St (c : Dev nD) (I : Inp F) (σ : Mem F) : sProp 𝕄 :=
  iprop(pt c cc0_stg0_0 (row 5120 I.x1) ∗ pt c cc0_stg1_0 (row 5120 I.y1) ∗ pt c cc0_stg2_0 (row 5120 I.x2)
    ∗ pt c cc0_stg3_0 (row 5120 I.y2) ∗ pt c cc0_stg4_0 (row 5120 I.s)
    ∗ pt c cc0_stg5_0 (col 5120 I.x1) ∗ pt c cc0_stg6_0 (col 5120 I.y1) ∗ pt c cc0_stg7_0 (col 5120 I.x2)
    ∗ pt c cc0_stg8_0 (col 5120 I.y2) ∗ pt c cc0_stg9_0 σ.obox ∗ pt c cc0_stg10_0 σ.os
    ∗ pt c cc0_scratch0 (row 5120 σ.al) ∗ pt c cc0_scratch1 (row 5120 σ.dest))

/-- From the contents `σ` the program ends with the answer `a` and the contents `σ'`. -/
def Run (c : Dev nD) (I : Inp F) {α : Type} (p : KProg F α) (σ : Mem F) (a : α) (σ' : Mem F) : Prop :=
  ∀ K : α → sProp 𝕄, iprop(St c I σ ∗ (St c I σ' -∗ K a))
    ⊢ wp frame (wpE (defs₀ (F := F)) 𝒱₀ (c : Thread nD τ) none) Set.univ p K

variable (c : Dev nD) (I : Inp F)

theorem Run.ret {α : Type} (a : α) (σ : Mem F) : Run c I (pure a : KProg F α) σ a σ := by
  intro K
  show _ ⊢ wp frame _ Set.univ (Prog.ret a) K
  rw [wp_ret]
  iintro ⟨H, Hk⟩
  imodintro
  iapply Hk
  iexact H

theorem Run.bind {α β : Type} {p : KProg F α} {q : α → KProg F β} {σ σ' σ'' : Mem F} {a : α} {b : β}
    (hp : Run c I p σ a σ') (hq : Run c I (q a) σ' b σ'') : Run c I (p >>= q) σ b σ'' := by
  intro K
  rw [wp_bind]
  iintro ⟨H, Hk⟩
  iapply (hp fun a => wp frame (wpE (defs₀ (F := F)) 𝒱₀ (c : Thread nD τ) none) Set.univ (q a) K)
  isplitl [H]
  · iexact H
  iintro H
  iapply (hq K)
  isplitl [H]
  · iexact H
  iexact Hk

/-- A load from a buffer among those held. -/
theorem Run.load {s : Shape} (m : Memref sig .tc .vmem s .f32) {σ : Mem F}
    (f : Buf (Elt F) ((m.view).loc (c : Thread nD τ)))
    (hs : St c I σ ⊢ iprop(((m.view).loc (c : Thread nD τ) ↦{fullShare} f)
      ∗ (((m.view).loc (c : Thread nD τ) ↦{fullShare} f) -∗ St c I σ)))
    (r : LoadRect s) (hl) :
    Run c I (Prog.lift (.load m r hl)) σ (m.view.readAt (Elt F) r f) σ := by
  intro K
  show _ ⊢ wp frame _ Set.univ (Prog.op _ fun a => Prog.ret a) K
  iintro ⟨H, Hk⟩
  ihave ⟨Hf, Hr⟩ := hs $$ H
  iapply (wp_load 𝒱₀ (c : Thread nD τ) none Set.univ (m := m) (Finset.subset_univ _)) $$ Hf
  iintro Hf
  rw [wp_ret]
  imodintro
  iapply Hk
  iapply Hr
  iexact Hf

/-- A store into a buffer among those held. -/
theorem Run.store {s : Shape} (m : Memref sig .tc .vmem s .f32) {σ σ' : Mem F} (r : Rect s)
    (f g : Buf (Elt F) ((m.access r).loc (c : Thread nD τ))) (w : r.shape.Idx → Elt F .f32)
    (hg : (m.access r).write (Elt F) f w Finset.univ = g)
    (hs : St c I σ ⊢ iprop(((m.access r).loc (c : Thread nD τ) ↦{fullShare} f)
      ∗ (((m.access r).loc (c : Thread nD τ) ↦{fullShare} g) -∗ St c I σ')))
    (hx) (hm) :
    Run c I (Prog.lift (.store m r w Finset.univ hx hm)) σ ⟨⟩ σ' := by
  subst hg
  intro K
  show _ ⊢ wp frame _ Set.univ (Prog.op _ fun a => Prog.ret a) K
  iintro ⟨H, Hk⟩
  ihave ⟨Hf, Hr⟩ := hs $$ H
  iapply (wp_store 𝒱₀ (c : Thread nD τ) none Set.univ (m := m) (r := r) (Mk := Finset.univ) (Finset.subset_univ _)) $$ Hf
  iintro Hf
  rw [wp_ret]
  imodintro
  iapply Hk
  iapply Hr
  iexact Hf

/-! ## Reading and writing rows and columns -/

/-- Numbers of a row buffer among those held. -/
theorem ldR_of {σ : Mem F} {m : Memref sig .tc .vmem S1x5120 .f32} {A : ℕ → F .f32}
    (f : Buf (Elt F) ((m.view).loc (c : Thread nD τ))) (hf : m.view.read (Elt F) f = row 5120 A)
    (hs : St c I σ ⊢ iprop(((m.view).loc (c : Thread nD τ) ↦{fullShare} f)
      ∗ (((m.view).loc (c : Thread nD τ) ↦{fullShare} f) -∗ St c I σ)))
    (o n : ℕ) (h : o + n ≤ 5120) (hn : 0 < n) :
    Run c I (ldR m o n h hn) σ (row n (from' o A)) σ := by
  have e : m.view.readAt (Elt F) (Rect.unit (s := S1x5120) ![0, o] (Rw n).size (inb_row h)).toLoadRect f
      = row n (from' o A) := by
    refine (View.readAt_unit (size := (Rw n).size) m.view f (inb_row h) rfl (inb_row h)).trans ?_
    rw [hf]
    funext i
    show A (o + 1 * (i 1).val) = A (o + (i 1).val)
    rw [Nat.one_mul]
  exact e ▸ Run.load c I m f hs _ _

/-- 128 numbers of a column buffer among those held. -/
theorem ldC_of {σ : Mem F} {m : Memref sig .tc .vmem S5120x1 .f32} {A : ℕ → F .f32}
    (f : Buf (Elt F) ((m.view).loc (c : Thread nD τ))) (hf : m.view.read (Elt F) f = col 5120 A)
    (hs : St c I σ ⊢ iprop(((m.view).loc (c : Thread nD τ) ↦{fullShare} f)
      ∗ (((m.view).loc (c : Thread nD τ) ↦{fullShare} f) -∗ St c I σ)))
    (o : ℕ) (h : o + 128 ≤ 5120) :
    Run c I (ldC m o h) σ (col 128 (from' o A)) σ := by
  have e : m.view.readAt (Elt F) (Rect.unit (s := S5120x1) ![o, 0] S128x1.size (inb_col h)).toLoadRect f
      = col 128 (from' o A) := by
    refine (View.readAt_unit (size := S128x1.size) m.view f (inb_col h) rfl (inb_col h)).trans ?_
    rw [hf]
    funext i
    show A (o + 1 * (i 0).val) = A (o + (i 0).val)
    rw [Nat.one_mul]
  exact e ▸ Run.load c I m f hs _ _

/-- A row's store at `o` replaces what is there. -/
theorem write_row {m : Memref sig .tc .vmem S1x5120 .f32} (o n : ℕ) (h : o + n ≤ 5120)
    (f : m.view.ty.Contents (Elt F)) (V A : ℕ → F .f32) (hf : m.view.read (Elt F) f = row 5120 A) :
    m.view.read (Elt F) ((m.access (Rect.unit (s := S1x5120) ![0, o] (Rw n).size (inb_row h))).write (Elt F) f
      (row n V) Finset.univ) = row 5120 (put o n V A) := by
  refine (View.read_writes_cons_put (size := (Rw n).size) m.view f (inb_row h) (row n V) [] rfl).trans ?_
  have e : m.view.read (Elt F) (m.view.writes (Elt F) f []) = row 5120 A := by rw [View.writes_nil, hf]
  rw [e]
  funext i
  unfold VecWindow.put row put
  by_cases hi : o ≤ (i 1).val ∧ (i 1).val < o + n
  · rw [if_pos hi, dif_pos]
    · rfl
    · intro a
      fin_cases a
      · have := (i 0).isLt
        simpa using this
      · simpa using hi
  · rw [if_neg hi, dif_neg]
    intro hc
    exact hi (by simpa using hc 1)

/-- A store of `n` numbers into a row buffer among those held. -/
theorem stR_of {σ σ' : Mem F} {m : Memref sig .tc .vmem S1x5120 .f32} {A V : ℕ → F .f32}
    (f : Buf (Elt F) ((m.view).loc (c : Thread nD τ))) (hf : m.view.read (Elt F) f = row 5120 A)
    (hs : St c I σ ⊢ iprop(((m.view).loc (c : Thread nD τ) ↦{fullShare} f)
      ∗ (((m.view).loc (c : Thread nD τ) ↦{fullShare} f) -∗ St c I σ)))
    (o n : ℕ) (h : o + n ≤ 5120) (hn : 0 < n) (g : Buf (Elt F) ((m.view).loc (c : Thread nD τ)))
    (hg : (m.access (Rect.unit (s := S1x5120) ![0, o] (Rw n).size (inb_row h))).write (Elt F) f (row n V) Finset.univ = g)
    (hw : St c I σ ⊢ iprop(((m.view).loc (c : Thread nD τ) ↦{fullShare} f)
      ∗ (((m.view).loc (c : Thread nD τ) ↦{fullShare} g) -∗ St c I σ'))) :
    Run c I (stR m o n h hn (row n V)) σ ⟨⟩ σ' := by
  refine Run.bind c I (ldR_of c I f hf hs o n h hn) ?_
  have e : shapeCast (Rw n) (row (F := F) n V) (cast_row n) = row n V := shapeCast_id _ _
  rw [e]
  exact Run.store c I m (Rect.unit (s := S1x5120) ![0, o] (Rw n).size (inb_row h)) f g (row n V) hg hw _ _

/-! ## Each buffer taken out and put back -/

/-- Taking out one of two. -/
theorem take_left {P Q Q' R S : sProp 𝕄} (h : P ⊢ iprop(R ∗ (S -∗ Q'))) : iprop(P ∗ Q) ⊢ iprop(R ∗ (S -∗ (Q' ∗ Q))) := by
  iintro ⟨H, Hq⟩
  ihave ⟨Hr, Hs⟩ := h $$ H
  isplitl [Hr]
  · iexact Hr
  iintro H
  isplitr [Hq]
  · iapply Hs
    iexact H
  iexact Hq

/-- Taking out of the rest. -/
theorem take_right {P Q Q' R S : sProp 𝕄} (h : Q ⊢ iprop(R ∗ (S -∗ Q'))) : iprop(P ∗ Q) ⊢ iprop(R ∗ (S -∗ (P ∗ Q'))) := by
  iintro ⟨Hp, H⟩
  ihave ⟨Hr, Hs⟩ := h $$ H
  isplitl [Hr]
  · iexact Hr
  iintro H
  isplitl [Hp]
  · iexact Hp
  iapply Hs
  iexact H

/-- Taking out the whole. -/
theorem take_all {P P' : sProp 𝕄} : P ⊢ iprop(P ∗ (P' -∗ P')) := by
  iintro H
  isplitl [H]
  · iexact H
  iintro H
  iexact H

/-- Taking out the last. -/
theorem take_two {P Q Q' : sProp 𝕄} : iprop(P ∗ Q) ⊢ iprop(Q ∗ (Q' -∗ (P ∗ Q'))) := take_right take_all

/-! ## The reads of the inputs -/

variable (σ : Mem F)

theorem ld_x1 (o n : ℕ) (h : o + n ≤ 5120) (hn : 0 < n) :
    Run c I (ldR B0.x1 o n h hn) σ (row n (from' o I.x1)) σ :=
  ldR_of c I (m := Memref.whole cc0_stg0_0) (row 5120 I.x1) rfl (take_left take_all) o n h hn

theorem ld_y1 (o n : ℕ) (h : o + n ≤ 5120) (hn : 0 < n) :
    Run c I (ldR B0.y1 o n h hn) σ (row n (from' o I.y1)) σ :=
  ldR_of c I (m := Memref.whole cc0_stg1_0) (row 5120 I.y1) rfl (take_right (take_left take_all)) o n h hn

theorem ld_x2 (o n : ℕ) (h : o + n ≤ 5120) (hn : 0 < n) :
    Run c I (ldR B0.x2 o n h hn) σ (row n (from' o I.x2)) σ :=
  ldR_of c I (m := Memref.whole cc0_stg2_0) (row 5120 I.x2) rfl (take_right (take_right (take_left take_all))) o n h hn

theorem ld_y2 (o n : ℕ) (h : o + n ≤ 5120) (hn : 0 < n) :
    Run c I (ldR B0.y2 o n h hn) σ (row n (from' o I.y2)) σ :=
  ldR_of c I (m := Memref.whole cc0_stg3_0) (row 5120 I.y2) rfl (take_right (take_right (take_right (take_left take_all)))) o n h hn

theorem ld_s (o n : ℕ) (h : o + n ≤ 5120) (hn : 0 < n) :
    Run c I (ldR B0.s o n h hn) σ (row n (from' o I.s)) σ :=
  ldR_of c I (m := Memref.whole cc0_stg4_0) (row 5120 I.s) rfl (take_right (take_right (take_right (take_right (take_left take_all))))) o n h hn

theorem ld_cx1 (o : ℕ) (h : o + 128 ≤ 5120) :
    Run c I (ldC B0.cx1 o h) σ (col 128 (from' o I.x1)) σ :=
  ldC_of c I (m := Memref.whole cc0_stg5_0) (col 5120 I.x1) rfl (take_right (take_right (take_right (take_right (take_right (take_left take_all)))))) o h

theorem ld_cy1 (o : ℕ) (h : o + 128 ≤ 5120) :
    Run c I (ldC B0.cy1 o h) σ (col 128 (from' o I.y1)) σ :=
  ldC_of c I (m := Memref.whole cc0_stg6_0) (col 5120 I.y1) rfl (take_right (take_right (take_right (take_right (take_right (take_right (take_left take_all))))))) o h

theorem ld_cx2 (o : ℕ) (h : o + 128 ≤ 5120) :
    Run c I (ldC B0.cx2 o h) σ (col 128 (from' o I.x2)) σ :=
  ldC_of c I (m := Memref.whole cc0_stg7_0) (col 5120 I.x2) rfl (take_right (take_right (take_right (take_right (take_right (take_right (take_right (take_left take_all)))))))) o h

theorem ld_cy2 (o : ℕ) (h : o + 128 ≤ 5120) :
    Run c I (ldC B0.cy2 o h) σ (col 128 (from' o I.y2)) σ :=
  ldC_of c I (m := Memref.whole cc0_stg8_0) (col 5120 I.y2) rfl (take_right (take_right (take_right (take_right (take_right (take_right (take_right (take_right (take_left take_all))))))))) o h

/-! ## Reads and writes of what changes -/

theorem ld_alive (o n : ℕ) (h : o + n ≤ 5120) (hn : 0 < n) :
    Run c I (ldR B0.alive o n h hn) σ (row n (from' o σ.al)) σ :=
  ldR_of c I (m := Memref.whole cc0_scratch0) (row 5120 σ.al) rfl (take_right (take_right (take_right (take_right (take_right (take_right (take_right (take_right (take_right (take_right (take_right (take_left take_all)))))))))))) o n h hn

theorem st_alive (o n : ℕ) (h : o + n ≤ 5120) (hn : 0 < n) (V : ℕ → F .f32) :
    Run c I (stR B0.alive o n h hn (row n V)) σ ⟨⟩ { σ with al := put o n V σ.al } := by
  exact stR_of c I (m := Memref.whole cc0_scratch0) (row 5120 σ.al) rfl (take_right (take_right (take_right (take_right (take_right (take_right (take_right (take_right (take_right (take_right (take_right (take_left take_all)))))))))))) o n h hn _
    (write_row (m := Memref.whole cc0_scratch0) o n h (row 5120 σ.al) V σ.al rfl) (take_right (take_right (take_right (take_right (take_right (take_right (take_right (take_right (take_right (take_right (take_right (take_left take_all))))))))))))

theorem ld_dest (o n : ℕ) (h : o + n ≤ 5120) (hn : 0 < n) :
    Run c I (ldR B0.dest o n h hn) σ (row n (from' o σ.dest)) σ :=
  ldR_of c I (m := Memref.whole cc0_scratch1) (row 5120 σ.dest) rfl (take_right (take_right (take_right (take_right (take_right (take_right (take_right (take_right (take_right (take_right (take_right (take_right take_all)))))))))))) o n h hn

theorem st_dest (o n : ℕ) (h : o + n ≤ 5120) (hn : 0 < n) (V : ℕ → F .f32) :
    Run c I (stR B0.dest o n h hn (row n V)) σ ⟨⟩ { σ with dest := put o n V σ.dest } := by
  exact stR_of c I (m := Memref.whole cc0_scratch1) (row 5120 σ.dest) rfl (take_right (take_right (take_right (take_right (take_right (take_right (take_right (take_right (take_right (take_right (take_right (take_right take_all)))))))))))) o n h hn _
    (write_row (m := Memref.whole cc0_scratch1) o n h (row 5120 σ.dest) V σ.dest rfl) (take_right (take_right (take_right (take_right (take_right (take_right (take_right (take_right (take_right (take_right (take_right (take_right take_all))))))))))))

theorem write_obox (f v : FVec F S304x4 .f32) (inb) :
    (((Memref.whole cc0_stg9_0).access (Rect.unit (s := S304x4) ![0, 0] S304x4.size inb) : View sig .tc _ _ _).write (Elt F) f v
      Finset.univ) = v :=
  Memref.write_access_unit_zero_univ (Elt F) cc0_stg9_0 (funext fun a => by fin_cases a <;> rfl) _ f v

/-- A store over a buffer among those held, after the load of what it covers. -/
theorem st_gen {sh : Shape} {σ' : Mem F} (m : Memref sig .tc .vmem sh .f32) (r : Rect sh)
    (f g : Buf (Elt F) ((m.view).loc (c : Thread nD τ))) (v : r.shape.Idx → Elt F .f32)
    (hg : (m.access r).write (Elt F) f v Finset.univ = g)
    (hs : St c I σ ⊢ iprop(((m.view).loc (c : Thread nD τ) ↦{fullShare} f)
      ∗ (((m.view).loc (c : Thread nD τ) ↦{fullShare} f) -∗ St c I σ)))
    (hw : St c I σ ⊢ iprop(((m.view).loc (c : Thread nD τ) ↦{fullShare} f)
      ∗ (((m.view).loc (c : Thread nD τ) ↦{fullShare} g) -∗ St c I σ'))) (hl) (hx) (hm) :
    Run c I (do
      let _ ← Prog.lift (.load m r.toLoadRect hl)
      Prog.lift (.store m r v Finset.univ hx hm)) σ ⟨⟩ σ' :=
  Run.bind c I (Run.load c I m f hs _ hl) (Run.store c I m r f g v hg hw hx hm)

theorem st_obox (v : FVec F S304x4 .f32) :
    Run c I (stObox B0 v) σ ⟨⟩ { σ with obox := v } := by
  have hw : ∀ g, St c I σ ⊢ iprop((((Memref.whole cc0_stg9_0).view).loc (c : Thread nD τ) ↦{fullShare} σ.obox)
      ∗ ((((Memref.whole cc0_stg9_0).view).loc (c : Thread nD τ) ↦{fullShare} g) -∗ St c I { σ with obox := g })) :=
    fun g => (take_right (take_right (take_right (take_right (take_right (take_right (take_right (take_right (take_right (take_left take_all))))))))))
  unfold stObox
  exact st_gen c I σ (Memref.whole cc0_stg9_0) (Rect.unit (s := S304x4) ![0, 0] S304x4.size _) σ.obox v v (write_obox σ.obox v _) (hw σ.obox) (hw v) _ _ _
theorem write_os (f v : FVec F S1x304 .f32) (inb) :
    (((Memref.whole cc0_stg10_0).access (Rect.unit (s := S1x304) ![0, 0] S1x304.size inb) : View sig .tc _ _ _).write (Elt F) f v
      Finset.univ) = v :=
  Memref.write_access_unit_zero_univ (Elt F) cc0_stg10_0 (funext fun a => by fin_cases a <;> rfl) _ f v

theorem st_os (v : FVec F S1x304 .f32) :
    Run c I (stOs B0 v) σ ⟨⟩ { σ with os := v } := by
  have hw : ∀ g, St c I σ ⊢ iprop((((Memref.whole cc0_stg10_0).view).loc (c : Thread nD τ) ↦{fullShare} σ.os)
      ∗ ((((Memref.whole cc0_stg10_0).view).loc (c : Thread nD τ) ↦{fullShare} g) -∗ St c I { σ with os := g })) :=
    fun g => (take_right (take_right (take_right (take_right (take_right (take_right (take_right (take_right (take_right (take_right (take_left take_all)))))))))))
  unfold stOs
  exact st_gen c I σ (Memref.whole cc0_stg10_0) (Rect.unit (s := S1x304) ![0, 0] S1x304.size _) σ.os v v (write_os σ.os v _) (hw σ.os) (hw v) _ _ _

end Cert.KernelIdeal.Nms
-- ==== Proof.Nms.Loops.lean ====
module

public import proofs.«01_k».proof.Proof.Nms.Run

/-!
# The loops of the second pass

Each loop is a label called again and again. If the calls end after finitely many trips then the
first call returns what the last one returns, and no buffer changes.
-/

set_option maxRecDepth 16384

@[expose] public section

noncomputable section

namespace Cert.KernelIdeal.Nms

open Idealize.ShloMosaic Cert.KernelIdeal
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig Unit (Elt F) ℕ (UR nD τ) ℕ

variable (c : Dev nD) (I : Inp F) (σ : Mem F)

/-- A call that calls itself `n` times and then returns meets "return `r`". -/
theorem calls_le (l : (Λ₀ F).Label) (a : ℕ → (Λ₀ F).Args l) (r : (Λ₀ F).Result l) (N : ℕ)
    (hs : ∀ i < N, defs₀ (F := F) .tc l (a i) = callL l (a (i + 1)))
    (he : defs₀ (F := F) .tc l (a N) = pure r) :
    ∀ n i, i + n = N → ∀ K : (Λ₀ F).Result l → sProp 𝕄,
      K r ⊢ wp frame (wpE (defs₀ (F := F)) 𝒱₀ (c : Thread nD τ) (some n)) Set.univ
        (defs₀ (F := F) .tc l (a i)) K := by
  intro n
  induction n with
  | zero =>
    intro i hi K
    obtain rfl : i = N := by omega
    rw [he]
    show _ ⊢ wp frame _ Set.univ (Prog.ret r) K
    rw [wp_ret]
    iintro H
    imodintro
    iexact H
  | succ n ih =>
    intro i hi K
    rw [hs i (by omega)]
    show _ ⊢ wp frame _ Set.univ (Prog.op _ fun x => Prog.ret x) K
    refine BIBase.Entails.trans ?_ (wp_call_spec 𝒱₀ (c : Thread nD τ) (some (n + 1)) Set.univ (pure r) n
      (fun u hu => by cases hu; exact Nat.lt_succ_self n) (fun K => ih (i + 1) (by omega) K))
    show _ ⊢ wp frame (wpE (defs₀ (F := F)) 𝒱₀ (c : Thread nD τ) (some (n + 1))) Set.univ
      (Prog.ret r : Prog (TpuEff nD τ sig (Elt F) (Λ₀ F) .tc) ((Λ₀ F).Result l)) K
    rw [wp_ret]
    iintro H
    imodintro
    iexact H

/-- So the first call returns what the last one returns. -/
theorem callL_run (l : (Λ₀ F).Label) (a₀ : (Λ₀ F).Args l) (a : ℕ → (Λ₀ F).Args l) (h0 : a₀ = a 0) (r : (Λ₀ F).Result l) (N : ℕ)
    (hs : ∀ i < N, defs₀ (F := F) .tc l (a i) = callL l (a (i + 1)))
    (he : defs₀ (F := F) .tc l (a N) = pure r) : Run c I (callL l a₀) σ r σ := by
  subst h0
  intro K
  show _ ⊢ wp frame _ Set.univ (Prog.op _ fun x => Prog.ret x) K
  refine BIBase.Entails.trans ?_ (wp_call_spec 𝒱₀ (c : Thread nD τ) none Set.univ (pure r) N
    (fun u hu => nomatch hu) (fun K => calls_le c l a r N hs he N 0 (by omega) K))
  show _ ⊢ wp frame (wpE (defs₀ (F := F)) 𝒱₀ (c : Thread nD τ) none) Set.univ
      (Prog.ret r : Prog (TpuEff nD τ sig (Elt F) (Λ₀ F) .tc) ((Λ₀ F).Result l)) K
  rw [wp_ret]
  iintro ⟨H, Hk⟩
  imodintro
  iapply Hk
  iexact H

/-- The kept boxes after `i` trips. -/
def keepAt (sl : FVec F S128x128 .f32) (cl : FVec F S128x1 .f32) : ℕ → FVec F S128x1 .f32
  | 0 => cl
  | i + 1 => step4 sl cl (keepAt sl cl i)

/-- Whether a trip follows the first `i`. -/
def goAt (sl : FVec F S128x128 .f32) (cl : FVec F S128x1 .f32) : ℕ → BitVec 1
  | 0 => 1#1
  | i + 1 => someC (diff4 sl cl (keepAt sl cl i))

/-- A loop that ends after `N` trips returns what is kept then. -/
def Answers (call : Call F) : Prop :=
  ∀ (sl : FVec F S128x128 .f32) (cl : FVec F S128x1 .f32) (N : ℕ), (∀ i < N, goAt sl cl i = 1#1) →
    ¬goAt sl cl N = 1#1 → ∀ (c : Dev nD) (I : Inp F) (σ : Mem F),
      Run c I (call sl cl cl 1#1) σ (keepAt sl cl N, goAt sl cl N) σ

/-- Every loop of the second pass does. -/
theorem calls_answer (v : BitVec 1) (h : k0_cond1 v = 1#1) : ∀ call ∈ calls (F := F) v h, Answers call := by
  unfold calls
  repeat' first
    | refine List.forall_mem_cons.2 ⟨?_, ?_⟩
    | (intro sl cl N h1 h2 c I σ
       refine callL_run c I σ _ _ ?a ?h0 _ N ?hs ?he
       case a => exact fun i => ⟨v, h, sl, cl, keepAt sl cl i, goAt sl cl i⟩
       case h0 => rfl
       case hs => exact fun i hi => if_pos (h1 i hi)
       case he => exact if_neg h2)
    | exact List.forall_mem_nil _

end Cert.KernelIdeal.Nms
-- ==== Proof.Nms.Pass.lean ====
module

public import proofs.«01_k».proof.Proof.Nms.Loops

/-!
# The two passes over the blocks

The mask is the property "still alive". A block first settles which of its own boxes are kept and
then clears what they suppress in the rest of the row. Both ways of settling a block agree as soon
as the short one has stopped changing.
-/

set_option maxRecDepth 16384

@[expose] public section

noncomputable section

namespace Cert.KernelIdeal.Nms

open Idealize.ShloMosaic Cert.KernelIdeal
open Classical

variable [Facts]

/-! ## A block's iteration, as properties -/

/-- The boxes kept after `n` steps. -/
def kept (p : ℕ → Prop) (r : ℕ → ℕ → Prop) : ℕ → ℕ → Prop
  | 0 => p
  | n + 1 => next1 p r (kept p r n)

/-- After enough steps a place no longer changes. -/
theorem kept_stable (p : ℕ → Prop) (r : ℕ → ℕ → Prop) (hr : ∀ i j, r i j → j < i) :
    ∀ n m i, i < n → i < m → (kept p r n i ↔ kept p r m i) := by
  intro n
  induction n with
  | zero => intro m i h; omega
  | succ n ih =>
    intro m i hn hm
    obtain ⟨m, rfl⟩ : ∃ m', m = m' + 1 := ⟨m - 1, by omega⟩
    refine and_congr Iff.rfl (not_congr ?_)
    constructor
    · rintro ⟨j, hj, hij, hq⟩
      have := hr i j hij
      exact ⟨j, hj, hij, (ih m j (by omega) (by omega)).1 hq⟩
    · rintro ⟨j, hj, hij, hq⟩
      have := hr i j hij
      exact ⟨j, hj, hij, (ih m j (by omega) (by omega)).2 hq⟩

/-- The boxes a block keeps. -/
def fixed (p : ℕ → Prop) (r : ℕ → ℕ → Prop) : ℕ → Prop := kept p r 128

/-- Two properties agree on a block. -/
def Same (p q : ℕ → Prop) : Prop := ∀ i < 128, p i ↔ q i

theorem next1_same {p : ℕ → Prop} {r : ℕ → ℕ → Prop} {q q' : ℕ → Prop} (h : Same q q') (i : ℕ) :
    next1 p r q i ↔ next1 p r q' i :=
  and_congr Iff.rfl (not_congr ⟨fun ⟨j, hj, hr, hq⟩ => ⟨j, hj, hr, (h j hj).1 hq⟩,
    fun ⟨j, hj, hr, hq⟩ => ⟨j, hj, hr, (h j hj).2 hq⟩⟩)

/-- A step that changes nothing has reached what the block keeps. -/
theorem kept_done {p : ℕ → Prop} {r : ℕ → ℕ → Prop} (hr : ∀ i j, r i j → j < i) {n : ℕ}
    (h : Same (kept p r (n + 1)) (kept p r n)) : Same (kept p r (n + 1)) (fixed p r) := by
  have hm : ∀ m, Same (kept p r (n + 1 + m)) (kept p r (n + 1)) := by
    intro m
    induction m with
    | zero => intro i _; exact Iff.rfl
    | succ m ih =>
      intro i hi
      have h' : Same (kept p r (n + 1 + m)) (kept p r n) := fun j hj => (ih j hj).trans (h j hj)
      exact next1_same h' i
  intro i hi
  exact (hm 128 i hi).symm.trans (kept_stable p r hr _ _ i (by omega) hi)

theorem col_same {p q : ℕ → Prop} (h : Same p q) : col 128 (ind p) = col 128 (ind q) := by
  funext i
  exact bit_congr (h _ (lt0 i))

theorem step4_eq (r : ℕ → ℕ → Prop) (p : ℕ → Prop) (n : ℕ) :
    step4 (tbl 128 r) (col 128 (ind p)) (col 128 (ind (kept p r n))) = col 128 (ind (kept p r (n + 4))) := by
  unfold step4
  rw [stepP_eq, stepP_eq, stepP_eq, stepP_eq]
  rfl

theorem keepAt_eq (r : ℕ → ℕ → Prop) (p : ℕ → Prop) (n : ℕ) :
    keepAt (tbl 128 r) (col 128 (ind p)) n = col 128 (ind (kept p r (4 * n))) := by
  induction n with
  | zero => rfl
  | succ n ih =>
    show step4 _ _ (keepAt _ _ n) = _
    rw [ih, step4_eq]
    rfl

theorem diff4_eq (r : ℕ → ℕ → Prop) (p : ℕ → Prop) (n : ℕ) :
    diff4 (tbl 128 r) (col 128 (ind p)) (col 128 (ind (kept p r n)))
      = col 128 (ind (differ (kept p r (n + 4)) (kept p r (n + 3)))) := by
  unfold diff4
  rw [step4_eq, stepP_eq, stepP_eq, stepP_eq]
  exact change_eq _ _

theorem bit_ne (p : Prop) : bit p ≠ 0 ↔ p := by
  by_cases h : p
  · rw [bit_pos h]; exact ⟨fun _ => h, fun _ => one_ne_zero⟩
  · rw [bit_neg h]; exact ⟨fun e => absurd rfl e, fun e => absurd e h⟩

theorem goAt_iff (r : ℕ → ℕ → Prop) (p : ℕ → Prop) (n : ℕ) :
    goAt (tbl 128 r) (col 128 (ind p)) (n + 1) = 1#1 ↔ ¬Same (kept p r (4 * n + 4)) (kept p r (4 * n + 3)) := by
  show someC (diff4 _ _ (keepAt _ _ n)) = 1#1 ↔ _
  rw [keepAt_eq, diff4_eq, someC_iff (ind _) (fun i _ => bit_nonneg _)]
  unfold Same
  push Not
  refine exists_congr fun i => and_congr Iff.rfl ?_
  exact (bit_ne _).trans (by unfold differ; tauto)

/-! ## What an iteration does -/

/-- The iteration `it` settles a block as `k` says, and adds `d` to the pass's sum. -/
def Does (it : Iter Ideal) (k : (ℕ → Prop) → (ℕ → ℕ → Prop) → ℕ → Prop)
    (d : (ℕ → Prop) → (ℕ → ℕ → Prop) → ℕ → EReal) : Prop :=
  ∀ (p : ℕ → Prop) (r : ℕ → ℕ → Prop), (∀ i j, r i j → j < i) → ∀ (A : ℕ → Ideal .f32) (c : Dev nD) (I : Inp Ideal)
    (σ : Mem Ideal), Run c I (it (tbl 128 r) (col 128 (ind p)) (col 128 A)) σ
      (col 128 (ind (k p r)), col 128 (fun i => (A i + d p r i : EReal))) σ

/-- The last of the short iteration's steps, where it changed something. -/
def moved (p : ℕ → Prop) (r : ℕ → ℕ → Prop) : ℕ → Prop := differ (kept p r 4) (kept p r 3)

theorem short_does : Does itShort (fun p r => kept p r 4) (fun p r => ind (moved p r)) := by
  intro p r hr A c I σ
  have h4 := step4_eq r p 0
  have hd := diff4_eq r p 0
  have e : itShort (F := Ideal) (tbl 128 r) (col 128 (ind p)) (col 128 A)
      = pure (col 128 (ind (kept p r 4)), col 128 (fun i => (A i + ind (moved p r) i : EReal))) := by
    show (pure (step4 (tbl 128 r) (col 128 (ind p)) (col 128 (ind (kept p r 0))),
      addf (col 128 A) (diff4 (tbl 128 r) (col 128 (ind p)) (col 128 (ind (kept p r 0))))) : KProg Ideal _) = _
    rw [h4, hd]
    rfl
  rw [e]
  exact Run.ret c I _ σ

theorem long_does (call : Call Ideal) (hc : Answers call) : Does (itLong call) fixed (fun _ _ _ => 0) := by
  intro p r hr A c I σ
  have hx : ∃ n, ¬goAt (tbl 128 r) (col 128 (ind p)) (n + 1) = 1#1 := by
    refine ⟨128, fun h => (goAt_iff r p 128).1 h ?_⟩
    intro i hi
    exact kept_stable p r hr _ _ i (by omega) (by omega)
  have hN := Nat.find_spec hx
  have hm : ∀ i < Nat.find hx + 1, goAt (tbl 128 r) (col 128 (ind p)) i = 1#1 := by
    intro i hi
    cases i with
    | zero => rfl
    | succ i => exact not_not.1 (Nat.find_min hx (by omega))
  generalize Nat.find hx = N at hN hm
  have hs : Same (kept p r (4 * N + 4)) (fixed p r) :=
    kept_done hr (not_not.1 fun h => hN ((goAt_iff r p N).2 h))
  have hrun := hc _ _ (N + 1) hm hN c I σ
  have ek : keepAt (tbl 128 r) (col 128 (ind p)) (N + 1) = col 128 (ind (fixed p r)) :=
    (keepAt_eq r p (N + 1)).trans (col_same hs)
  rw [ek] at hrun
  have ea : (fun i => (A i + 0 : EReal)) = A := funext fun i => add_zero _
  rw [ea]
  exact Run.bind c I hrun (Run.ret c I _ σ)

/-! ## A block -/

/-- Which later boxes of the block starting at `o` an earlier one overlaps. -/
def inBlk (I : Inp Ideal) (o : ℕ) : ℕ → ℕ → Prop := fun i j =>
  half < quo (area (I.x1 (o + i)) (I.y1 (o + i)) (I.x2 (o + i)) (I.y2 (o + i))) (I.x1 (o + i)) (I.y1 (o + i))
    (I.x2 (o + i)) (I.y2 (o + i)) (I.x1 (o + j)) (I.y1 (o + j)) (I.x2 (o + j)) (I.y2 (o + j)) ∧ j < i

/-- Whether box `j` of the block starting at `o`, kept or not, clears box `i` of the row. -/
def clears (I : Inp Ideal) (o : ℕ) (q : ℕ → Prop) (j i : ℕ) : Prop :=
  half < quo (area (I.x1 (o + j)) (I.y1 (o + j)) (I.x2 (o + j)) (I.y2 (o + j))) (I.x1 (o + j)) (I.y1 (o + j))
    (if q j then I.x2 (o + j) else farLeft) (I.y2 (o + j)) (I.x1 i) (I.y1 i) (I.x2 i) (I.y2 i)

/-- The mask after the block starting at `o` has kept `q`. -/
def after (I : Inp Ideal) (o : ℕ) (q p : ℕ → Prop) : ℕ → Prop := fun i =>
  if o + 128 ≤ i ∧ i < 5120 then p i ∧ ¬∃ j < 128, clears I o q j i
  else if o ≤ i ∧ i < o + 128 then q (i - o) else p i

theorem after_same (I : Inp Ideal) (o : ℕ) {q q' : ℕ → Prop} (h : Same q q') (p : ℕ → Prop) :
    after I o q p = after I o q' p := by
  funext i
  unfold after
  have hc : (∃ j < 128, clears I o q j i) = ∃ j < 128, clears I o q' j i := by
    refine propext (exists_congr fun j => and_congr_right fun hj => ?_)
    unfold clears
    simp only [h j hj]
  rw [hc]
  by_cases hi : o ≤ i ∧ i < o + 128
  · rw [propext (h (i - o) (by omega))]
  · rw [if_neg hi, if_neg hi]

/-- A pass over `n` blocks from `o` on. -/
def passS (I : Inp Ideal) (k : (ℕ → Prop) → (ℕ → ℕ → Prop) → ℕ → Prop) : ℕ → ℕ → (ℕ → Prop) → ℕ → Prop
  | 0, _, p => p
  | n + 1, o, p => passS I k n (o + 128) (after I o (k (fun i => p (o + i)) (inBlk I o)) p)

/-- The sum of the same pass. -/
def passA (I : Inp Ideal) (k : (ℕ → Prop) → (ℕ → ℕ → Prop) → ℕ → Prop)
    (d : (ℕ → Prop) → (ℕ → ℕ → Prop) → ℕ → EReal) : ℕ → ℕ → (ℕ → Prop) → (ℕ → EReal) → ℕ → EReal
  | 0, _, _, A => A
  | n + 1, o, p, A => passA I k d n (o + 128) (after I o (k (fun i => p (o + i)) (inBlk I o)) p)
      (fun i => A i + d (fun i => p (o + i)) (inBlk I o) i)

variable (c : Dev nD) (I : Inp Ideal)

/-- What a block reads. -/
def blkOf (I : Inp Ideal) (o : ℕ) (p : ℕ → Prop) : Blk Ideal :=
  ⟨row 128 (from' o I.x1), row 128 (from' o I.y1), row 128 (from' o I.x2), row 128 (from' o I.y2),
    col 128 (from' o I.x1), col 128 (from' o I.y1), col 128 (from' o I.x2), col 128 (from' o I.y2),
    row 128 (ind fun i => p (o + i))⟩

theorem rdBlk_run (σ : Mem Ideal) (p : ℕ → Prop) (o : ℕ) (h : o + 128 ≤ 5120) (hp : σ.al = ind p) :
    Run c I (rdBlk B0 o h) σ (blkOf I o p) σ := by
  refine Run.bind c I (ld_x1 c I σ o 128 h _) (Run.bind c I (ld_y1 c I σ o 128 h _)
    (Run.bind c I (ld_x2 c I σ o 128 h _) (Run.bind c I (ld_y2 c I σ o 128 h _)
    (Run.bind c I (ld_cx1 c I σ o h) (Run.bind c I (ld_cy1 c I σ o h) (Run.bind c I (ld_cx2 c I σ o h)
    (Run.bind c I (ld_cy2 c I σ o h) (Run.bind c I (ld_alive c I σ o 128 h _) ?_))))))))
  rw [hp]
  simp only [shapeCast_id]
  exact Run.ret c I _ σ

theorem put_ind (o n : ℕ) (a b : ℕ → Prop) :
    put o n (ind a) (ind b) = ind (fun i => if o ≤ i ∧ i < o + n then a (i - o) else b i) := by
  funext i
  unfold put ind
  by_cases h : o ≤ i ∧ i < o + n
  · rw [if_pos h]
    exact bit_congr (iff_of_eq (if_pos h).symm)
  · rw [if_neg h]
    exact bit_congr (iff_of_eq (if_neg h).symm)

theorem tailB_run (σ : Mem Ideal) (p p' q : ℕ → Prop) (o n : ℕ) (h : o + 128 + n ≤ 5120) (hn : 0 < n) (hp : σ.al = ind p) :
    Run c I (tailB B0 (o + 128) n h hn (blkOf I o p') (col 128 (ind q))) σ ⟨⟩
      { σ with al := ind fun i => if o + 128 ≤ i ∧ i < o + 128 + n then p i ∧ ¬∃ j < 128, clears I o q j i else p i } := by
  refine Run.bind c I (ld_x1 c I σ (o + 128) n h hn) (Run.bind c I (ld_y1 c I σ (o + 128) n h hn)
    (Run.bind c I (ld_x2 c I σ (o + 128) n h hn) (Run.bind c I (ld_y2 c I σ (o + 128) n h hn)
    (Run.bind c I (ld_alive c I σ (o + 128) n h hn) ?_))))
  rw [hp]
  simp only [shapeCast_id]
  have e := tailP_eq n q (fun i => p (o + 128 + i)) (from' o I.x1) (from' o I.y1) (from' o I.x2) (from' o I.y2)
    (from' (o + 128) I.x1) (from' (o + 128) I.y1) (from' (o + 128) I.x2) (from' (o + 128) I.y2)
  have hrun := st_alive c I σ (o + 128) n h hn (ind fun i => p (o + 128 + i) ∧ ¬∃ j < 128, clears I o q j (o + 128 + i))
  rw [hp, put_ind] at hrun
  have e2 : (fun i => if o + 128 ≤ i ∧ i < o + 128 + n then (p (o + 128 + (i - (o + 128))) ∧ ¬∃ j < 128, clears I o q j (o + 128 + (i - (o + 128)))) else p i)
      = (fun i => if o + 128 ≤ i ∧ i < o + 128 + n then p i ∧ ¬∃ j < 128, clears I o q j i else p i) := by
    funext i
    by_cases hi : o + 128 ≤ i ∧ i < o + 128 + n
    · rw [if_pos hi, if_pos hi, show o + 128 + (i - (o + 128)) = i by omega]
    · rw [if_neg hi, if_neg hi]
  rw [e2] at hrun
  refine Eq.mp ?_ hrun
  rw [← show tailP n (col 128 (ind q)) (col 128 (from' o I.x1)) (col 128 (from' o I.y1)) (col 128 (from' o I.x2))
    (col 128 (from' o I.y2)) (row n (from' (o + 128) I.x1)) (row n (from' (o + 128) I.y1)) (row n (from' (o + 128) I.x2))
    (row n (from' (o + 128) I.y2)) (row n (ind fun i => p (o + 128 + i)))
    = row n (ind fun i => p (o + 128 + i) ∧ ¬∃ j < 128, clears I o q j (o + 128 + i)) from e]
  rfl

theorem tailO_run (σ : Mem Ideal) (p p' q : ℕ → Prop) (o m : ℕ) (h : o + 128 + 128 * m = 5120) (hp : σ.al = ind p) :
    Run c I (tailO B0 (blkOf I o p') (col 128 (ind q)) m (o + 128) h) σ ⟨⟩
      { σ with al := ind fun i => if o + 128 ≤ i ∧ i < 5120 then p i ∧ ¬∃ j < 128, clears I o q j i else p i } := by
  cases m with
  | zero =>
    have e : (fun i => if o + 128 ≤ i ∧ i < 5120 then p i ∧ ¬∃ j < 128, clears I o q j i else p i) = p := by
      funext i
      exact if_neg (by omega)
    rw [e, ← hp]
    exact Run.ret c I _ σ
  | succ m =>
    have hrun := tailB_run c I σ p p' q o (128 * (m + 1)) (by omega) (by omega) hp
    have e : o + 128 + 128 * (m + 1) = 5120 := h
    simp only [e] at hrun
    exact hrun

/-- A block's table of overlaps. -/
theorem blk_sl (o : ℕ) (p : ℕ → Prop) : (blkOf I o p).sl = tbl 128 (inBlk I o) := by
  unfold Blk.sl blkOf
  dsimp only
  rw [slP_eq (from' o I.x1) (from' o I.y1) (from' o I.x2) (from' o I.y2) (from' o I.x1) (from' o I.y1) (from' o I.x2)
    (from' o I.y2)]
  unfold inBlk from'
  rfl

theorem blk_col (o : ℕ) (p : ℕ → Prop) : (blkOf I o p).col = col 128 (ind fun i => p (o + i)) := by
  unfold Blk.col blkOf
  dsimp only
  rw [trP_row (ind fun i => p (o + i))]

/-- A pass. -/
theorem passP_run (k : (ℕ → Prop) → (ℕ → ℕ → Prop) → ℕ → Prop) (d : (ℕ → Prop) → (ℕ → ℕ → Prop) → ℕ → EReal)
    (its : List (Iter Ideal)) (hits : ∀ it ∈ its, Does it k d) :
    ∀ (o : ℕ) (h : o + 128 * its.length = 5120) (A : ℕ → Ideal .f32) (σ : Mem Ideal) (p : ℕ → Prop), σ.al = ind p →
      Run c I (passP B0 its o h (col 128 A)) σ (col (F := Ideal) 128 (passA I k d its.length o p A))
        { σ with al := ind (passS I k its.length o p) } := by
  induction its with
  | nil =>
    intro o h A σ p hp
    show Run c I (pure (col 128 A)) σ (col 128 A) { σ with al := ind p }
    rw [← hp]
    exact Run.ret c I _ σ
  | cons it its ih =>
    intro o h A σ p hp
    have hl : o + 128 + 128 * its.length = 5120 := by simp only [List.length_cons] at h; omega
    refine Run.bind c I (rdBlk_run c I σ p o (by omega) hp) ?_
    rw [blk_sl, blk_col]
    refine Run.bind c I (hits it (List.mem_cons_self ..) (fun i => p (o + i)) (inBlk I o) (fun i j h => h.2) A c I σ) ?_
    generalize hk : k (fun i => p (o + i)) (inBlk I o) = q
    show Run c I (do
      stR B0.alive o 128 _ _ (rowP (col 128 (ind q)))
      tailO B0 (blkOf I o p) (col 128 (ind q)) its.length (o + 128) hl
      passP B0 its (o + 128) hl _) σ _ _
    rw [rowP_col]
    refine Run.bind c I (st_alive c I σ o 128 (by omega) (by decide) (ind q)) ?_
    refine Run.bind c I (tailO_run c I _ (fun i => if o ≤ i ∧ i < o + 128 then q (i - o) else p i) p q o its.length hl
      (by rw [hp, put_ind])) ?_
    have e : (fun i => if o + 128 ≤ i ∧ i < 5120 then
          (if o ≤ i ∧ i < o + 128 then q (i - o) else p i) ∧ ¬∃ j < 128, clears I o q j i
        else if o ≤ i ∧ i < o + 128 then q (i - o) else p i) = after I o q p := by
      funext i
      unfold after
      by_cases h1 : o + 128 ≤ i ∧ i < 5120
      · rw [if_pos h1, if_pos h1, if_neg (by omega)]
      · rw [if_neg h1, if_neg h1]
    have hr := ih (fun it hit => hits it (List.mem_cons_of_mem _ hit)) (o + 128) hl
      (fun i => (A i + d (fun i => p (o + i)) (inBlk I o) i : EReal)) { σ with al := ind (after I o q p) } (after I o q p) rfl
    rw [← hk] at hr e ⊢
    rw [e]
    exact hr

/-! ## The two passes agree -/

theorem passA_mono (k : (ℕ → Prop) → (ℕ → ℕ → Prop) → ℕ → Prop) (d : (ℕ → Prop) → (ℕ → ℕ → Prop) → ℕ → EReal)
    (hd : ∀ p r i, 0 ≤ d p r i) : ∀ (n o : ℕ) (p : ℕ → Prop) (A : ℕ → EReal) (i : ℕ), 0 ≤ A i →
      0 ≤ passA I k d n o p A i ∧ (passA I k d n o p A i = 0 → A i = 0) := by
  intro n
  induction n with
  | zero => intro o p A i h; exact ⟨h, id⟩
  | succ n ih =>
    intro o p A i h
    have h2 : 0 ≤ A i + d (fun i => p (o + i)) (inBlk I o) i := add_nonneg h (hd _ _ _)
    obtain ⟨h3, h4⟩ := ih (o + 128) (after I o (k (fun i => p (o + i)) (inBlk I o)) p)
      (fun i => A i + d (fun i => p (o + i)) (inBlk I o) i) i h2
    refine ⟨h3, fun e => ?_⟩
    have h5 := h4 e
    refine le_antisymm ?_ h
    rw [← h5]
    exact le_add_of_nonneg_right (hd _ _ _)

/-- A short pass whose sum is zero is the long one. -/
theorem pass_agree : ∀ (n o : ℕ) (p : ℕ → Prop) (A : ℕ → EReal), (∀ i, 0 ≤ A i) →
    (∀ i < 128, passA I (fun p r => kept p r 4) (fun p r => ind (moved p r)) n o p A i = 0) →
      passS I (fun p r => kept p r 4) n o p = passS I fixed n o p := by
  intro n
  induction n with
  | zero => intro o p A hA h; rfl
  | succ n ih =>
    intro o p A hA h
    have hn : ∀ i, (0 : EReal) ≤ A i + ind (moved (fun i => p (o + i)) (inBlk I o)) i :=
      fun i => add_nonneg (hA i) (bit_nonneg _)
    have h1 := ih (o + 128) _ (fun i => (A i + ind (moved (fun i => p (o + i)) (inBlk I o)) i : EReal)) hn h
    have hs : Same (kept (fun i => p (o + i)) (inBlk I o) 4) (fixed (fun i => p (o + i)) (inBlk I o)) := by
      refine kept_done (n := 3) (fun i j h => h.2) fun i hi => ?_
      have h2 := (passA_mono I (fun p r => kept p r 4) (fun p r => ind (moved p r)) (fun _ _ _ => bit_nonneg _) n (o + 128) _ _ i (hn i)).2 (h i hi)
      have h3 : ind (moved (fun i => p (o + i)) (inBlk I o)) i = (0 : EReal) := by
        refine le_antisymm ?_ (bit_nonneg _)
        rw [← h2]
        exact le_add_of_nonneg_left (hA i)
      by_contra hc
      have h4 : moved (fun i => p (o + i)) (inBlk I o) i := hc
      have h5 : ind (moved (fun i => p (o + i)) (inBlk I o)) i = (1 : EReal) := bit_pos h4
      rw [h5] at h3
      exact one_ne_zero h3
    show passS I _ n (o + 128) (after I o (kept (fun i => p (o + i)) (inBlk I o) 4) p)
      = passS I fixed n (o + 128) (after I o (fixed (fun i => p (o + i)) (inBlk I o)) p)
    rw [← after_same I o hs p]
    exact h1

/-- The boxes above the threshold. -/
def valid0 (I : Inp Ideal) : ℕ → Prop := fun i => Ideal.ofBits .f32 0x3D4CCCCD#32 < I.s i

/-- The mask at the end. -/
def last (I : Inp Ideal) : ℕ → Prop := passS I fixed 40 0 (fun i => if i < 5120 then valid0 I i else False)

theorem put_all (V A : ℕ → Prop) (hA : True) : put 0 5120 (ind V) (ind A) = ind (fun i => if i < 5120 then V i else A i) := by
  rw [put_ind]
  congr 1
  funext i
  by_cases h : i < 5120
  · rw [if_pos h, if_pos (by omega), Nat.sub_zero]
  · rw [if_neg h, if_neg (by omega)]

end Cert.KernelIdeal.Nms
-- ==== Proof.Nms.Rank.lean ====
module

public import proofs.«01_k».proof.Proof.Nms.Pass
public import Mathlib.Data.Nat.Count
public import Mathlib.Algebra.BigOperators.Fin

/-!
# The ranks

A kept box goes to the place given by the number of kept boxes before it. Any other box goes behind
all kept boxes, in order.
-/

set_option maxRecDepth 16384

@[expose] public section

noncomputable section

namespace Cert.KernelIdeal.Nms

open Idealize.ShloMosaic Cert.KernelIdeal
open scoped BigOperators
open Classical

variable [Facts]

/-- A whole number as an extended real. -/
abbrev nr (n : ℕ) : EReal := ((n : ℝ) : EReal)

theorem nr_add (a b : ℕ) : nr a + nr b = nr (a + b) := by
  rw [← EReal.coe_add]; norm_cast

theorem nr_one : nr 1 = 1 := by simp [nr]
theorem nr_zero : nr 0 = 0 := by simp [nr]

theorem nr_sub {a b : ℕ} (h : b ≤ a) : nr a - nr b = nr (a - b) := by
  rw [← EReal.coe_sub, ← Nat.cast_sub h]

/-- The number of places below `n` with the property. -/
def cnt (p : ℕ → Prop) (n : ℕ) : ℕ := @Nat.count p (fun _ => propDecidable _) n

theorem cnt_succ (p : ℕ → Prop) (n : ℕ) : cnt p (n + 1) = cnt p n + if p n then 1 else 0 := by
  unfold cnt
  rw [Nat.count_succ]

theorem cnt_le (p : ℕ → Prop) (n : ℕ) : cnt p n ≤ n := by
  unfold cnt
  exact Nat.count_le p

theorem cnt_mono (p : ℕ → Prop) {m n : ℕ} (h : m ≤ n) : cnt p m ≤ cnt p n := by
  unfold cnt
  exact Nat.count_monotone p h

theorem cnt_shift (p : ℕ → Prop) (o n : ℕ) : cnt p (o + n) = cnt p o + cnt (fun i => p (o + i)) n := by
  induction n with
  | zero => simp [cnt]
  | succ n ih =>
    rw [show o + (n + 1) = o + n + 1 from rfl, cnt_succ, cnt_succ, ih, Nat.add_assoc]

theorem bit_nr (p : Prop) : bit p = nr (if p then 1 else 0) := by
  by_cases h : p
  · rw [bit_pos h, if_pos h, nr_one]
  · rw [bit_neg h, if_neg h, nr_zero]

theorem sum_upto (p : ℕ → Prop) (j : ℕ) (n : ℕ) :
    ∑ k : Fin n, bit (p k.val ∧ k.val ≤ j) = nr (cnt p (min n (j + 1))) := by
  induction n with
  | zero => simp [cnt]
  | succ n ih =>
    rw [Fin.sum_univ_castSucc]
    simp only [Fin.val_castSucc, Fin.val_last]
    rw [ih]
    by_cases h : n ≤ j
    · rw [min_eq_left (by omega), min_eq_left (by omega), cnt_succ, bit_congr (and_iff_left h), bit_nr, nr_add]
    · rw [min_eq_right (by omega), min_eq_right (by omega), bit_neg (fun e => h e.2), add_zero]

theorem sum_bits (p : ℕ → Prop) (n : ℕ) : ∑ k : Fin n, bit (p k.val) = nr (cnt p n) := by
  have h := sum_upto p n n
  rw [min_eq_left (by omega)] at h
  rw [← h]
  exact Finset.sum_congr rfl fun k _ => bit_congr (and_iff_left k.isLt.le).symm

/-- The sum of a row. -/
theorem sumR_eq (n : ℕ) (p : ℕ → Prop) (h) (h1) (h2) (h3) :
    shapeCast S1x1 (multiReduction (F := Ideal) (φ := .f32) .add [1] S1 (row n (ind p)) 0x00000000#32 h h1 h2) h3
      = fun _ => nr (cnt p n) := by
  funext i
  unfold shapeCast
  refine (Ideal.multiReduction_add_total _ _ _ (fun b => by fin_cases b; rfl) _ _ _).trans ?_
  rw [ValueIdx.sum_idx2, Fin.sum_univ_one]
  exact sum_bits p n

/-- Where box `j` of the row goes. -/
def rank (p : ℕ → Prop) (j : ℕ) : ℕ := if p j then cnt p j else cnt p 5120 + (j - cnt p j)

theorem pos1P_eq : pos1P (F := Ideal) = row 128 (fun j => nr (j + 1)) := by
  funext i
  have h1 := lt1 i
  show (((iota .tc S1x128 32 [1] _ i).toInt : ℝ) : EReal) + Ideal.ofBits .f32 0x3F800000#32 = nr ((i 1).val + 1)
  rw [axis1, word_int (by omega), one_word, ← nr_one, ← nr_add]
  norm_cast

theorem gkP_eq (K : ℕ) (p : ℕ → Prop) :
    gkP (fun _ => nr K) (row 128 (ind p)) = row (F := Ideal) 128 (fun j => nr (K + cnt p (min 128 (j + 1)))) := by
  funext i
  obtain ⟨r, c, rfl⟩ : ∃ r c, i = ValueIdx.ix2 r c := ⟨_, _, ValueIdx.eq_ix2 i⟩
  unfold gkP
  rw [ltiP_eq]
  show nr K + FloatOps.matmul (DotDims.plain 1 128 128) none (row 128 (ind p)) (tbl 128 fun i j => i ≤ j) _ (ValueIdx.ix2 r c) = _
  rw [Ideal.matmul_plain_apply]
  show nr K + (Ideal.ofBits .f32 0x00000000#32 + ∑ k : Fin 128, bit (p k.val) * bit (k.val ≤ c.val)) = nr (K + cnt p (min 128 (c.val + 1)))
  rw [zero_word, zero_add, ← nr_add, ← sum_upto]
  exact congrArg (nr K + ·) (Finset.sum_congr rfl fun k _ => bit_mul _ _)

/-- The destinations of the block at `o`. -/
theorem destP_eq (w : BitVec 32) (o : ℕ) (p : ℕ → Prop) (ho : o + 128 ≤ 5120) (hw : (Ideal.ofBits .f32 w : EReal) = nr o) :
    destP pos1P w (fun _ => nr (cnt p 5120)) (fun _ => nr (cnt p o)) (row 128 (ind fun i => p (o + i)))
      = row (F := Ideal) 128 (fun j => nr (rank p (o + j))) := by
  unfold destP
  rw [gkP_eq, pos1P_eq]
  funext i
  have h1 := lt1 i
  have hc : cnt p o + cnt (fun i => p (o + i)) (min 128 ((i 1).val + 1)) = cnt p (o + (i 1).val + 1) := by
    rw [min_eq_right (by omega), ← cnt_shift]; rfl
  refine (pick_bit (p (o + (i 1).val)) _ ((cmp_gt _ _).trans (half_lt_bit _)) _ _).trans ?_
  show _ = nr (rank p (o + (i 1).val))
  have hle := cnt_le p (o + (i 1).val)
  have hm := cnt_mono p (show o + (i 1).val + 1 ≤ 5120 by omega)
  have e1 : subf (row 128 fun j => nr (cnt p o + cnt (fun i => p (o + i)) (min 128 (j + 1))))
      (broadcast S1x128 (cst Ideal 0x3F800000#32)) i = nr (cnt p (o + (i 1).val + 1)) - nr 1 := by
    show nr (cnt p o + cnt (fun i => p (o + i)) (min 128 ((i 1).val + 1))) - Ideal.ofBits .f32 0x3F800000#32 = _
    rw [one_word, nr_one, hc]
  have e2 : subf (subf (addf (broadcastTo S1x128 (addf (fun _ => nr (cnt p 5120)) (broadcast S1x1 (cst Ideal w))) (by decide))
        (row 128 fun j => nr (j + 1))) (row 128 fun j => nr (cnt p o + cnt (fun i => p (o + i)) (min 128 (j + 1)))))
      (broadcast S1x128 (cst Ideal 0x3F800000#32)) i
      = nr (cnt p 5120) + nr o + nr ((i 1).val + 1) - nr (cnt p (o + (i 1).val + 1)) - nr 1 := by
    show nr (cnt p 5120) + Ideal.ofBits .f32 w + nr ((i 1).val + 1)
      - nr (cnt p o + cnt (fun i => p (o + i)) (min 128 ((i 1).val + 1))) - Ideal.ofBits .f32 0x3F800000#32 = _
    rw [one_word, nr_one, hw, hc]
  unfold rank
  by_cases hp : p (o + (i 1).val)
  · rw [if_pos hp, if_pos hp]
    refine e1.trans ?_
    rw [cnt_succ p (o + (i 1).val), if_pos hp, nr_sub (by omega), Nat.add_sub_cancel]
  · rw [if_neg hp, if_neg hp]
    refine e2.trans ?_
    rw [cnt_succ p (o + (i 1).val), if_neg hp] at hm ⊢
    rw [Nat.add_zero, nr_add, nr_add, nr_sub (by omega), nr_sub (by omega)]
    congr 2
    omega

theorem koffP_eq (o : ℕ) (p : ℕ → Prop) :
    koffP (fun _ => nr (cnt p o)) (row 128 (ind fun i => p (o + i))) = (fun _ => nr (cnt p (o + 128)) : FVec Ideal S1x1 .f32) := by
  refine (congrArg (addf (F := Ideal) (φ := .f32) (fun _ => nr (cnt p o))) (sumR_eq 128 (fun i => p (o + i)) _ _ _ _)).trans ?_
  funext i
  show nr (cnt p o) + nr (cnt (fun i => p (o + i)) 128) = _
  rw [nr_add, ← cnt_shift]

theorem totalP_eq (p : ℕ → Prop) : totalP (row 5120 (ind p)) = (fun _ => nr (cnt p 5120) : FVec Ideal S1x1 .f32) := sumR_eq 5120 p _ _ _ _

/-- The words name the numbers `o`, `o + 128`, … -/
def Words : List (BitVec 32) → ℕ → Prop
  | [], _ => True
  | w :: ws, o => (Ideal.ofBits .f32 w : EReal) = nr o ∧ Words ws (o + 128)

theorem words_offW : Words offW 0 := by
  unfold offW
  repeat' first
    | exact trivial
    | refine And.intro ?_ ?_
  all_goals
    first
    | (simp [Ideal.ofBits, Ideal.ieee, nr]; done)
    | (simp [Ideal.ofBits, Ideal.ieee, nr]; first | (norm_cast; done) | (rw [← EReal.coe_mul]; norm_num; done))

variable (c : Dev nD) (I : Inp Ideal)

attribute [local irreducible] cnt rank destP koffP

theorem rankP_run (p : ℕ → Prop) (ws : List (BitVec 32)) :
    ∀ (o : ℕ) (h : o + 128 * ws.length = 5120) (σ : Mem Ideal), Words ws o → σ.al = ind p →
      Run c I (rankP B0 pos1P (fun _ => nr (cnt p 5120)) ws o h (fun _ => nr (cnt p o))) σ ⟨⟩
        { σ with dest := fun i => if o ≤ i ∧ i < 5120 then nr (rank p i) else σ.dest i } := by
  induction ws with
  | nil =>
    intro o h σ _ hp
    have e : (fun i => if o ≤ i ∧ i < 5120 then nr (rank p i) else σ.dest i) = σ.dest := by
      funext i
      rw [if_neg]
      simp only [List.length_nil] at h
      omega
    rw [e]
    exact Run.ret c I _ σ
  | cons w ws ih =>
    intro o h σ hw hp
    have hl : o + 128 + 128 * ws.length = 5120 := by simp only [List.length_cons] at h; omega
    refine Run.bind c I (ld_alive c I σ o 128 (by omega) (by decide)) ?_
    rw [hp]
    show Run c I (do
      stR B0.dest o 128 _ _ (destP pos1P w (fun _ => nr (cnt p 5120)) (fun _ => nr (cnt p o)) (row 128 (ind fun i => p (o + i))))
      rankP B0 pos1P _ ws (o + 128) hl (koffP (fun _ => nr (cnt p o)) (row 128 (ind fun i => p (o + i))))) σ _ _
    rw [destP_eq w o p (by omega) hw.1, koffP_eq]
    refine Run.bind c I (st_dest c I σ o 128 (by omega) (by decide) _) ?_
    have hr := ih (o + 128) hl { σ with dest := put o 128 (fun j => nr (rank p (o + j))) σ.dest } hw.2 hp
    have e : (fun i => if o + 128 ≤ i ∧ i < 5120 then nr (rank p i) else put o 128 (fun j => nr (rank p (o + j))) σ.dest i)
        = (fun i => if o ≤ i ∧ i < 5120 then nr (rank p i) else σ.dest i) := by
      funext i
      unfold put
      by_cases h1 : o + 128 ≤ i ∧ i < 5120
      · rw [if_pos h1, if_pos (by omega)]
      · by_cases h2 : o ≤ i ∧ i < o + 128
        · rw [if_neg h1, if_pos h2, if_pos (by omega)]
          exact congrArg (fun k => nr (rank p k)) (by omega)
        · rw [if_neg h1, if_neg h2, if_neg (by omega)]
    refine Eq.mp ?_ hr
    congr 2

end Cert.KernelIdeal.Nms
-- ==== Proof.Nms.Body.lean ====
module

public import proofs.«01_k».proof.Proof.Nms.Rank

/-!
# The whole body

Whatever the inputs, the body ends, and its two results are the boxes and scores selected by the
ranks of the mask the long pass ends with.
-/

set_option maxRecDepth 16384

@[expose] public section

noncomputable section

namespace Cert.KernelIdeal.Nms

open Idealize.ShloMosaic Cert.KernelIdeal
open Classical

variable [Facts]

/-- The mask both passes start with. -/
def start (I : Inp Ideal) : ℕ → Prop := fun i => valid0 I i ∧ i < 5120

/-- The mask at the end. -/
def final (I : Inp Ideal) : ℕ → Prop := passS I fixed 40 0 (start I)

/-- The destinations, as a row. -/
def destRow (I : Inp Ideal) : FVec Ideal S1x5120 .f32 := row 5120 (fun j => nr (rank (final I) j))

/-- The boxes selected. -/
def oboxOf (I : Inp Ideal) : FVec Ideal S304x4 .f32 :=
  oboxP (selP (destRow I)) (row 5120 I.x1) (row 5120 I.y1) (row 5120 I.x2) (row 5120 I.y2)

/-- The scores selected. -/
def osOf (I : Inp Ideal) : FVec Ideal S1x304 .f32 :=
  osP (selP (destRow I)) (row 5120 (ind (final I))) (row 5120 I.s)

variable (c : Dev nD) (I : Inp Ideal)

/-- Only the first 5120 places of a mask are held. -/
theorem St_al (σ : Mem Ideal) (a b : ℕ → Ideal .f32) (h : ∀ i < 5120, a i = b i) :
    St c I { σ with al := a } = St c I { σ with al := b } := by
  have e : row 5120 a = row 5120 b := funext fun i => h _ (lt1 i)
  unfold St
  dsimp only
  rw [e]

theorem Run.to {α : Type} {p : KProg Ideal α} {σ σ' σ'' : Mem Ideal} {a : α} (h : Run c I p σ a σ')
    (e : St c I σ' = St c I σ'') : Run c I p σ a σ'' := by
  intro K
  rw [← e]
  exact h K

theorem start_run (σ : Mem Ideal) (h h') :
    Run c I (stR B0.alive 0 5120 h h' (row 5120 (ind (valid0 I)))) σ ⟨⟩ { σ with al := ind (start I) } := by
  refine Run.to c I (st_alive c I σ 0 5120 h h' (ind (valid0 I))) (St_al c I σ _ _ fun i hi => ?_)
  unfold put
  rw [if_pos (by omega)]
  exact bit_congr (by unfold start; rw [Nat.sub_zero]; exact (and_iff_left hi).symm)

/-- A pass from the start. -/
theorem pass_run (k : (ℕ → Prop) → (ℕ → ℕ → Prop) → ℕ → Prop) (d : (ℕ → Prop) → (ℕ → ℕ → Prop) → ℕ → EReal)
    (its : List (Iter Ideal)) (hits : ∀ it ∈ its, Does it k d) (hl : its.length = 40) (σ : Mem Ideal) :
    Run c I (pass B0 its hl (row 5120 (ind (valid0 I)))) σ
      (col (F := Ideal) 128 (passA I k d 40 0 (start I) (fun _ => 0))) { σ with al := ind (passS I k 40 0 (start I)) } := by
  refine Run.bind c I (start_run c I σ _ _) ?_
  have e : (broadcast S128x1 (cst Ideal 0x00000000#32) : FVec Ideal S128x1 .f32) = col 128 (fun _ => (0 : EReal)) := by
    funext i
    exact zero_word
  rw [e]
  have h := passP_run c I k d its hits 0 (by rw [hl]) (fun _ => (0 : EReal)) { σ with al := ind (start I) } (start I) rfl
  simp only [hl] at h
  exact h

theorem cond_iff (v : BitVec 1) : k0_cond1 v = 1#1 ↔ v = 1#1 := by
  revert v; decide

/-- Both passes together end with the mask of the long one. -/
theorem passes_run (σ : Mem Ideal) (valid : FVec Ideal S1x5120 .f32) (hv : valid = row 5120 (ind (valid0 I))) :
    Run c I (do
      let acc ← pass B0 (List.replicate 40 itShort) rfl valid
      again B0 (someC acc) valid) σ ⟨⟩ { σ with al := ind (final I) } := by
  subst hv
  refine Run.bind c I (pass_run c I _ _ _ (fun it hit => (List.eq_of_mem_replicate hit) ▸ short_does) rfl σ) ?_
  have hA : ∀ i, (0 : EReal) ≤ passA I (fun p r => kept p r 4) (fun p r => ind (moved p r)) 40 0 (start I) (fun _ => 0) i :=
    fun i => (passA_mono I _ _ (fun _ _ _ => bit_nonneg _) 40 0 (start I) (fun _ => 0) i (le_refl _)).1
  have hs := someC_iff _ (fun i _ => hA i)
  generalize hacc : someC (col (F := Ideal) 128 (passA I (fun p r => kept p r 4) (fun p r => ind (moved p r)) 40 0 (start I) (fun _ => 0))) = v at hs
  unfold again
  by_cases hc : k0_cond1 v = 1#1
  · rw [dif_pos hc]
    refine Run.bind c I (pass_run c I fixed (fun _ _ _ => 0) _ ?_ rfl _) (Run.ret c I _ _)
    intro it hit
    obtain ⟨call, hcall, rfl⟩ := List.mem_map.1 hit
    exact long_does call (calls_answer v hc call hcall)
  · rw [dif_neg hc]
    have h0 : ∀ i < 128, passA I (fun p r => kept p r 4) (fun p r => ind (moved p r)) 40 0 (start I) (fun _ => 0) i = 0 := by
      intro i hi
      by_contra hne
      exact hc ((cond_iff v).2 (hs.2 ⟨i, hi, hne⟩))
    rw [pass_agree I 40 0 (start I) (fun _ => 0) (fun _ => le_refl _) h0]
    exact Run.ret c I _ _

attribute [local irreducible] cnt rank destP koffP

theorem pick_run (σ : Mem Ideal) (hd : ∀ i < 5120, σ.dest i = nr (rank (final I) i)) :
    Run c I (pick B0) σ (selP (destRow I)) { σ with obox := oboxOf I } := by
  refine Run.bind c I (ld_dest c I σ 0 5120 _ _) (Run.bind c I (ld_x1 c I σ 0 5120 _ _)
    (Run.bind c I (ld_y1 c I σ 0 5120 _ _) (Run.bind c I (ld_x2 c I σ 0 5120 _ _) (Run.bind c I (ld_y2 c I σ 0 5120 _ _) ?_))))
  have e : ∀ A : ℕ → Ideal .f32, row 5120 (from' 0 A) = row 5120 A := by
    intro A
    unfold from'
    simp only [Nat.zero_add]
  have ed : row 5120 (from' 0 σ.dest) = destRow I := by
    rw [e]
    funext i
    exact hd _ (lt1 i)
  simp only [shapeCast_id, e, ed]
  rw [e] at ed
  rw [ed]
  exact Run.bind c I (st_obox c I σ (oboxOf I)) (Run.ret c I _ _)

theorem finish_run (σ : Mem Ideal) (hp : σ.al = ind (final I)) :
    ∃ σ', σ'.obox = oboxOf I ∧ σ'.os = osOf I ∧ Run c I (finish B0 (row 5120 I.s)) σ ⟨⟩ σ' := by
  refine ⟨⟨oboxOf I, osOf I, σ.al, fun i => if 0 ≤ i ∧ i < 5120 then nr (rank (final I) i) else σ.dest i⟩, rfl, rfl,
    Run.bind c I (ld_alive c I σ 0 5120 _ _) ?_⟩
  · rw [show row 5120 (from' 0 σ.al) = row 5120 (from' 0 (ind (final I))) by rw [hp]]
    have e : row 5120 (from' 0 (ind (final I))) = row 5120 (ind (final I)) := by
      unfold from'
      simp only [Nat.zero_add]
    rw [e, totalP_eq]
    have e0 : (broadcast S1x1 (cst Ideal 0x00000000#32) : FVec Ideal S1x1 .f32) = fun _ => nr (cnt (final I) 0) := by
      funext i
      show Ideal.ofBits .f32 0x00000000#32 = _
      rw [zero_word, show cnt (final I) 0 = 0 from Nat.le_zero.1 (cnt_le _ 0), nr_zero]
    rw [e0]
    refine Run.bind c I (rankP_run c I (final I) offW 0 _ σ words_offW hp) ?_
    refine Run.bind c I (pick_run c I _ ?_) (st_os c I _ _)
    intro i hi
    exact if_pos ⟨Nat.zero_le _, hi⟩

/-- The body, from any contents. -/
theorem body_run (σ : Mem Ideal) : ∃ σ', σ'.obox = oboxOf I ∧ σ'.os = osOf I ∧ Run c I (body B0) σ ⟨⟩ σ' := by
  obtain ⟨σ', h1, h2, h3⟩ := finish_run c I { σ with al := ind (final I) } rfl
  refine ⟨σ', h1, h2, Run.bind c I (ld_s c I σ 0 5120 _ _) ?_⟩
  have e : row 5120 (from' 0 I.s) = row 5120 I.s := by
    unfold from'
    simp only [Nat.zero_add]
  rw [e]
  simp only [shapeCast_id]
  have h := Run.bind c I (passes_run c I σ (validP (row 5120 I.s)) (validP_eq I.s)) (q := fun _ => finish B0 (row 5120 I.s)) h3
  rw [bind_assoc] at h
  exact h

end Cert.KernelIdeal.Nms
-- ==== Proof.Nms.Sweep.lean ====
module

public import proofs.«01_k».proof.Proof.Nms.Body

/-!
# The mask is the greedy choice

Box after box, a box that is still alive clears the later boxes it overlaps. The kernel's pass, block
after block, ends with the same boxes.
-/

set_option maxRecDepth 16384

@[expose] public section

noncomputable section

namespace Cert.Nms

/-- The boxes alive after the first `k` boxes have cleared what they overlap. -/
def sweep (st : ℕ → Prop) (ov : ℕ → ℕ → Prop) : ℕ → ℕ → Prop
  | 0 => st
  | k + 1 => fun j => sweep st ov k j ∧ ¬(ov k j ∧ k < j ∧ sweep st ov k k)

/-- The boxes chosen. -/
def greedy (st : ℕ → Prop) (ov : ℕ → ℕ → Prop) (j : ℕ) : Prop := sweep st ov j j

variable (st : ℕ → Prop) (ov : ℕ → ℕ → Prop)

theorem sweep_iff (k j : ℕ) : sweep st ov k j ↔ st j ∧ ∀ i < k, i < j → greedy st ov i → ¬ov i j := by
  induction k with
  | zero => exact ⟨fun h => ⟨h, fun i hi => absurd hi (Nat.not_lt_zero _)⟩, fun h => h.1⟩
  | succ k ih =>
    show sweep st ov k j ∧ _ ↔ _
    rw [ih]
    constructor
    · rintro ⟨⟨h1, h2⟩, h3⟩
      refine ⟨h1, fun i hi hij hg => ?_⟩
      rcases Nat.lt_succ_iff_lt_or_eq.1 hi with h | rfl
      · exact h2 i h hij hg
      · exact fun ho => h3 ⟨ho, hij, hg⟩
    · rintro ⟨h1, h2⟩
      exact ⟨⟨h1, fun i hi => h2 i (Nat.lt_succ_of_lt hi)⟩, fun ⟨ho, hk, hg⟩ => h2 k (Nat.lt_succ_self k) hk hg ho⟩

theorem greedy_iff (j : ℕ) : greedy st ov j ↔ st j ∧ ∀ i < j, greedy st ov i → ¬ov i j :=
  (sweep_iff st ov j j).trans (and_congr_right fun _ => forall_congr' fun i => ⟨fun h hi => h hi hi, fun h hi _ => h hi⟩)

theorem sweep_done {k j : ℕ} (h : j ≤ k) : sweep st ov k j ↔ greedy st ov j := by
  rw [sweep_iff, greedy_iff]
  exact and_congr_right fun _ => forall_congr' fun i => ⟨fun h' hi => h' (by omega) hi, fun h' _ hi => h' hi⟩

theorem sweep_add (o n j : ℕ) : sweep st ov (o + n) j ↔
    sweep st ov o j ∧ ∀ i < n, o + i < j → greedy st ov (o + i) → ¬ov (o + i) j := by
  rw [sweep_iff, sweep_iff]
  constructor
  · rintro ⟨h1, h2⟩
    exact ⟨⟨h1, fun i hi => h2 i (by omega)⟩, fun i hi => h2 (o + i) (by omega)⟩
  · rintro ⟨⟨h1, h2⟩, h3⟩
    refine ⟨h1, fun i hi => ?_⟩
    by_cases h : i < o
    · exact h2 i h
    · have e : o + (i - o) = i := by omega
      have := h3 (i - o) (by omega)
      rwa [e] at this

/-- Only the boxes below `n` matter. -/
theorem greedy_congr {st' : ℕ → Prop} {ov' : ℕ → ℕ → Prop} {n : ℕ} (hs : ∀ j < n, st j ↔ st' j)
    (ho : ∀ i j, i < j → j < n → (ov i j ↔ ov' i j)) : ∀ j < n, greedy st ov j ↔ greedy st' ov' j := by
  intro j
  induction j using Nat.strong_induction_on with
  | _ j ih =>
    intro hj
    rw [greedy_iff, greedy_iff, hs j hj]
    exact and_congr_right fun _ => forall_congr' fun i => ⟨
      fun h hi hg => by rw [← ho i j hi hj]; exact h hi ((ih i hi (by omega)).2 hg),
      fun h hi hg => by rw [ho i j hi hj]; exact h hi ((ih i hi (by omega)).1 hg)⟩

end Cert.Nms

namespace Cert.KernelIdeal.Nms

open Idealize.ShloMosaic Cert.KernelIdeal Cert.Nms
open Classical

variable [Facts]

/-- What a block keeps is kept because nothing it keeps before clears it. -/
theorem fixed_iff (p : ℕ → Prop) (r : ℕ → ℕ → Prop) (hr : ∀ i j, r i j → j < i) (i : ℕ) (hi : i < 128) :
    fixed p r i ↔ p i ∧ ∀ j < 128, r i j → ¬fixed p r j := by
  refine (kept_stable p r hr 128 129 i hi (by omega)).trans ?_
  show next1 p r (kept p r 128) i ↔ _
  unfold next1
  exact and_congr_right fun _ => ⟨fun h j hj hij hk => h ⟨j, hj, hij, hk⟩, fun h ⟨j, hj, hij, hk⟩ => h j hj hij hk⟩

variable (I : Inp Ideal) (ov : ℕ → ℕ → Prop)

/-- The two overlap tests of a block are the overlap `ov`, as far as boxes that can be alive go. -/
structure Tests : Prop where
  real : ∀ i, start I i → i < 5000
  block : ∀ o i j, j < i → o + i < 5000 → (inBlk I o i j ↔ ov (o + j) (o + i))
  rest : ∀ o q j i, o + j < i → i < 5000 → (clears I o q j i ↔ q j ∧ ov (o + j) i)

variable {I ov}

theorem block_kept (T : Tests I ov) (o : ℕ) : ∀ i < 128,
    (fixed (fun i => sweep (start I) ov o (o + i)) (inBlk I o) i ↔ greedy (start I) ov (o + i)) := by
  intro i
  induction i using Nat.strong_induction_on with
  | _ i ih =>
    intro hi
    rw [fixed_iff _ _ (fun i j h => h.2) i hi]
    have e := sweep_add (start I) ov o i (o + i)
    rw [show greedy (start I) ov (o + i) = sweep (start I) ov (o + i) (o + i) from rfl, e]
    refine and_congr_right fun hs => ?_
    have hr : o + i < 5000 := T.real _ ((sweep_iff _ _ _ _).1 hs).1
    constructor
    · intro h j hj _ hg ho
      exact h j (by omega) ((T.block o i j hj hr).2 ho) ((ih j hj (by omega)).2 hg)
    · intro h j hj hij hk
      have hji : j < i := hij.2
      exact h j hji (by omega) ((ih j hji hj).1 hk) ((T.block o i j hji hr).1 hij)

theorem after_sweep (T : Tests I ov) (o : ℕ) (ho : o + 128 ≤ 5120) :
    after I o (fixed (fun i => sweep (start I) ov o (o + i)) (inBlk I o)) (sweep (start I) ov o) = sweep (start I) ov (o + 128) := by
  funext i
  refine propext ?_
  unfold after
  by_cases h1 : o + 128 ≤ i ∧ i < 5120
  · rw [if_pos h1, sweep_add]
    refine and_congr_right fun hs => ?_
    have hr : i < 5000 := T.real _ ((sweep_iff _ _ _ _).1 hs).1
    constructor
    · intro h j hj hji hg hov
      exact h ⟨j, hj, (T.rest o _ j i hji hr).2 ⟨(block_kept T o j hj).2 hg, hov⟩⟩
    · rintro h ⟨j, hj, hc⟩
      have := (T.rest o _ j i (by omega) hr).1 hc
      exact h j hj (by omega) ((block_kept T o j hj).1 this.1) this.2
  · rw [if_neg h1]
    by_cases h2 : o ≤ i ∧ i < o + 128
    · rw [if_pos h2]
      have e : o + (i - o) = i := by omega
      have := block_kept T o (i - o) (by omega)
      rw [e] at this
      exact this.trans (sweep_done _ _ (by omega)).symm
    · rw [if_neg h2]
      by_cases h3 : i < o
      · exact (sweep_done _ _ (by omega)).trans (sweep_done _ _ (by omega)).symm
      · have hn : ¬start I i := fun h => by have := T.real i h; omega
        exact ⟨fun h => absurd ((sweep_iff _ _ _ _).1 h).1 hn, fun h => absurd ((sweep_iff _ _ _ _).1 h).1 hn⟩

theorem pass_sweep (T : Tests I ov) : ∀ (n o : ℕ), o + 128 * n = 5120 →
    passS I fixed n o (sweep (start I) ov o) = sweep (start I) ov 5120 := by
  intro n
  induction n with
  | zero => intro o h; rw [show o = 5120 by omega]; rfl
  | succ n ih =>
    intro o h
    show passS I fixed n (o + 128) _ = _
    rw [after_sweep T o (by omega)]
    exact ih (o + 128) (by omega)

/-- The mask at the end is the greedy choice. -/
theorem final_greedy (T : Tests I ov) (i : ℕ) : final I i ↔ greedy (start I) ov i := by
  have h : final I = sweep (start I) ov 5120 := pass_sweep T 40 0 rfl
  rw [h]
  by_cases hi : i ≤ 5120
  · exact sweep_done _ _ hi
  · have hn : ¬start I i := fun h => by have := T.real i h; omega
    exact ⟨fun h => absurd ((sweep_iff _ _ _ _).1 h).1 hn, fun h => absurd ((greedy_iff _ _ _).1 h).1 hn⟩

end Cert.KernelIdeal.Nms

end
-- ==== Proof.Nms.RefLoop.lean ====
module

public import proofs.«01_k».proof.Proof.Nms.Ref
public import proofs.«01_k».proof.Proof.Nms.Sweep
public import Idealize.ShloMosaic.Lib.DynamicIndex
public import Idealize.ShloMosaic.Lib.ValueIdx
public import Idealize.ShloMosaic.Lib.Pipeline.Value

/-!
# The reference's loop

One trip of the loop lets box `k`, if it is alive, clear the later boxes it overlaps.
-/

set_option maxRecDepth 16384

@[expose] public section

noncomputable section

namespace Cert.ReferenceIdeal.Nms

open Idealize.ShloMosaic Cert.ReferenceIdeal Cert.ReferenceIdeal.Gen Cert.ReferenceIdeal.Value
open Idealize.ShloMosaic.TcCoe
open Cert.ReferenceIdeal.Facts₀
open Cert.Nms

/-- One half, the overlap a box may have with a better one. -/
abbrev half : EReal := Ideal.ofBits .f32 0x3F000000#32

/-- The table of overlaps, the places, the mask. -/
abbrev Table : Type := FVec Ideal S5000x5000 .f32
abbrev Mask : Type := IVec S5000 1

/-- A trip's number, wrapped around as an index is. -/
abbrev wrapped (k : ℕ) : IVec S_ 32 :=
  select (cmpi .slt (constantI S_ 32 (BitVec.ofNat 32 k)) (constantI S_ 32 0#32))
    (addi (constantI S_ 32 (BitVec.ofNat 32 k)) (constantI S_ 32 5000#32)) (constantI S_ 32 (BitVec.ofNat 32 k))

/-- Row `k` of the table. -/
theorem row_slice (T : Table) (k : ℕ) (hk : k < 5000) (st : Fin 2 → Int) (h0 : st 0 = k) (h1 : st 1 = 0) (j : Fin 5000) (h h') :
    shapeCast S5000 (Host.dynamicSlice S1x5000 T st h) h' (ValueIdx.ix1 j) = T (ValueIdx.ix2 ⟨k, hk⟩ j) := by
  have hs : S5000x5000.Slices (![k, 0] : Fin 2 → ℕ) S1x5000 := ⟨rfl, fun a => by
    match a with
    | ⟨0, _⟩ => show k + 1 ≤ 5000; omega
    | ⟨1, _⟩ => show 0 + 5000 ≤ 5000; omega⟩
  rw [Host.dynamicSlice_eq_extractStridedSlice S1x5000 T st ![k, 0] h hs (fun a => by
    match a with
    | ⟨0, _⟩ => exact h0
    | ⟨1, _⟩ => exact h1)]
  refine (shapeCast_apply _ h' (ValueIdx.ix1 j) (ValueIdx.ix2 ⟨0, Nat.one_pos⟩ j) ?_).trans ?_
  · refine (Shape.rowMajor_val_two _).trans (Eq.trans ?_ (Shape.rowMajor_val_one _).symm)
    show 0 * 5000 + j.val = j.val
    omega
  · unfold extractStridedSlice
    refine congrArg T (funext fun a => Fin.ext ?_)
    match a with
    | ⟨0, _⟩ => rfl
    | ⟨1, _⟩ => show 0 + j.val = j.val; omega

/-- Entry `k` of the mask. -/
theorem mask_slice (M : Mask) (k : ℕ) (hk : k < 5000) (st : Fin 1 → Int) (h0 : st 0 = k) (i : S_.Idx) (h h') :
    shapeCast S_ (Host.dynamicSlice S1 M st h) h' i = M (ValueIdx.ix1 ⟨k, hk⟩) := by
  have hs : S5000.Slices (![k] : Fin 1 → ℕ) S1 := ⟨rfl, fun a => by
    match a with
    | ⟨0, _⟩ => show k + 1 ≤ 5000; omega⟩
  rw [Host.dynamicSlice_eq_extractStridedSlice S1 M st ![k] h hs (fun a => by
    match a with
    | ⟨0, _⟩ => exact h0)]
  refine (shapeCast_apply _ h' i (ValueIdx.ix1 ⟨0, Nat.one_pos⟩) ?_).trans ?_
  · have h1 := (S1.rowMajor (ValueIdx.ix1 (⟨0, Nat.one_pos⟩ : Fin 1))).isLt
    have h2 := (S_.rowMajor i).isLt
    have e1 : S1.numel = 1 := by decide
    have e2 : S_.numel = 1 := by decide
    omega
  · unfold extractStridedSlice
    refine congrArg M (funext fun a => Fin.ext ?_)
    match a with
    | ⟨0, _⟩ => rfl

theorem bit_and (a b : BitVec 1) : IntOp.andi a b = 1#1 ↔ a = 1#1 ∧ b = 1#1 := by
  revert a b; decide
theorem bit_not (a : BitVec 1) : ~~~a = 1#1 ↔ ¬a = 1#1 := by
  revert a; decide

theorem bit_true (p : Prop) [Decidable p] : BitVec.ofBool (decide p) = 1#1 ↔ p := by
  by_cases h : p <;> simp [h]
theorem bit_bool (b : Bool) : BitVec.ofBool b = 1#1 ↔ b = true := by
  cases b <;> simp

/-- A small number wraps to itself. -/
theorem wrapped_int (k : ℕ) (hk : k < 5000) (i : S_.Idx) : (wrapped k i).toInt = k := by
  have e : (BitVec.ofNat 32 k).toInt = k := toInt_ofNat_of_lt (by omega)
  unfold wrapped
  refine (congrArg BitVec.toInt (select_slt_zero_of_nonneg _ _ _ i ?_)).trans e
  show 0 ≤ (BitVec.ofNat 32 k).toInt
  omega

/-- The carried buffers before trip `k`. -/
structure Before (V : Valuation τ sig (Elt Ideal)) (T : Table) (M : Mask) (k : ℕ) : Prop where
  table : V (Proc.devRef .tc main_v66_0) = T
  places : V (Proc.devRef .tc main_v66_1) = iotaInDim S5000 32 0
  index : V (Proc.devRef .tc main_v66_3) = constantI S_ 32 (BitVec.ofNat 32 k)
  mask : V (Proc.devRef .tc main_v66_4) = M

theorem trip_mask (V : Valuation τ sig (Elt Ideal)) (T : Table) (M : Mask) (k : ℕ) (hk : k < 5000) (h : Before V T M k) (j : Fin 5000) :
    (step_main_v66_4 V : Mask) (ValueIdx.ix1 j) = 1#1 ↔
      M (ValueIdx.ix1 j) = 1#1 ∧ ¬(half < T (ValueIdx.ix2 ⟨k, hk⟩ j) ∧ k < j.val ∧ M (ValueIdx.ix1 ⟨k, hk⟩) = 1#1) := by
  unfold step_main_v66_4 res_main_while0b_v76
  rw [h.table, h.places, h.index, h.mask]
  simp only [id]
  refine (bit_and _ _).trans (and_congr_right fun _ => (bit_not _).trans (not_congr ?_))
  refine (bit_and _ _).trans ?_
  rw [← and_assoc]
  refine and_congr ((bit_and _ _).trans (and_congr ?_ ?_)) ?_
  · show BitVec.ofBool (decide (half < shapeCast S5000 (Host.dynamicSlice S1x5000 T _ _) _ (ValueIdx.ix1 j))) = 1#1 ↔ _
    rw [row_slice T k hk _ (wrapped_int k hk _) rfl j]
    exact bit_true _
  · show BitVec.ofBool ((BitVec.ofNat 32 k).slt (BitVec.ofNat 32 j.val)) = 1#1 ↔ _
    have hj := j.isLt
    rw [bit_bool, BitVec.slt_iff_toInt_lt, toInt_ofNat_of_lt (by omega), toInt_ofNat_of_lt (by omega)]
    omega
  · unfold broadcastInDim
    rw [mask_slice M k hk _ (wrapped_int k hk _) _]

/-- The mask that box `k` may clear, and the overlaps the table says. -/
abbrev alive0 (M : Mask) (j : ℕ) : Prop := ∃ h : j < 5000, M (ValueIdx.ix1 ⟨j, h⟩) = 1#1
abbrev over (T : Table) (i j : ℕ) : Prop := ∃ (hi : i < 5000) (hj : j < 5000), half < T (ValueIdx.ix2 ⟨i, hi⟩ ⟨j, hj⟩)

variable (E : Valuation τ sig (Elt Ideal)) (T : Table) (M : Mask)

/-- Before trip `k`, the buffers are as on entry but for the counter and the mask. -/
theorem trips (h : Before E T M 0) : ∀ k ≤ 5000, ∃ M' : Mask, Before (STEP^[k] E) T M' k ∧
    ∀ j : Fin 5000, M' (ValueIdx.ix1 j) = 1#1 ↔ sweep (alive0 M) (over T) k j
  | 0, _ => ⟨M, h, fun j => ⟨fun e => ⟨j.isLt, e⟩, fun e => e.2⟩⟩
  | k + 1, hk => by
    obtain ⟨M', hB, hM⟩ := trips h k (by omega)
    have hk' : k < 5000 := by omega
    refine ⟨step_main_v66_4 (STEP^[k] E), ⟨?_, ?_, ?_, ?_⟩, fun j => ?_⟩
    · rw [Function.iterate_succ_apply']; exact (STEP_main_v66_0 _).trans hB.table
    · rw [Function.iterate_succ_apply']; exact (STEP_main_v66_1 _).trans hB.places
    · rw [Function.iterate_succ_apply']
      refine (STEP_main_v66_3 _).trans ?_
      unfold step_main_v66_3
      rw [hB.index]
      funext i
      show BitVec.ofNat 32 k + 1#32 = BitVec.ofNat 32 (k + 1)
      exact (BitVec.ofNat_add k 1).symm
    · rw [Function.iterate_succ_apply']; exact STEP_main_v66_4 _
    · refine (trip_mask _ T M' k hk' hB j).trans ?_
      rw [hM j, hM ⟨k, hk'⟩]
      refine and_congr_right fun _ => not_congr (and_congr_left fun _ => ?_)
      exact ⟨fun e => ⟨hk', j.isLt, e⟩, fun e => e.2.2⟩

/-- After the loop the mask is the greedy choice. -/
theorem loop_mask (h : Before E T M 0) (j : Fin 5000) :
    ((STEP^[5000] E) (Proc.devRef .tc main_v66_4) : Mask) (ValueIdx.ix1 j) = 1#1 ↔ greedy (alive0 M) (over T) j := by
  obtain ⟨M', hB, hM⟩ := trips E T M h 5000 le_rfl
  rw [hB.mask, hM j]
  exact sweep_done _ _ (show j.val ≤ 5000 by have := j.isLt; omega)

end Cert.ReferenceIdeal.Nms

end
-- ==== Proof.Nms.Order.lean ====
module

public import Idealize.ShloMosaic.Lib.SortFacts
public import Idealize.ShloMosaic.Lib.SortPrefix
public import Mathlib.Data.EReal.Operations
public import Mathlib.Order.Fin.Basic
public import Mathlib.Order.WellFounded

/-!
# Stable sorts by a number

A stable sort by a number puts the smaller number first and keeps the order of equal ones.
-/

@[expose] public section

noncomputable section

namespace Cert.Nms

open Idealize.ShloMosaic
open Classical

/-- Place `a` comes before place `b`: by the number, and then by the place. -/
def ordBy {n : ℕ} (key : Fin n → EReal) : Fin n → Fin n → Bool := fun a b =>
  decide (key a < key b) || (decide (key a = key b) && decide (a < b))

theorem ordBy_iff {n : ℕ} (key : Fin n → EReal) (a b : Fin n) :
    ordBy key a b = true ↔ key a < key b ∨ (key a = key b ∧ a < b) := by
  simp [ordBy]

theorem ordBy_total {n : ℕ} (key : Fin n → EReal) : StrictTotalBefore (ordBy key) :=
  StrictTotalBefore.of_key_then_position (fun a b => decide (a < b)) key (fun a => by simp)
    (fun a b c hab hbc => by simp only [decide_eq_true_eq] at *; exact hab.trans hbc)
    (fun a b => by simp only [decide_eq_true_eq]; exact lt_trichotomy a b)

/-- The places in sorted order. -/
def place {n : ℕ} (key : Fin n → EReal) : Fin n → Fin n := sortedFrom (ordBy key)

/-- Two relations that agree on earlier against later places sort an increasing list alike. -/
theorem stableSort_agree {ι : Type} [LT ι] (R B : ι → ι → Bool) (h : ∀ a b, a < b → R b a = B b a) :
    ∀ l : List ι, l.Pairwise (· < ·) → stableSort R l = stableSort B l
  | [], _ => rfl
  | a :: l, hl => by
    rw [List.pairwise_cons] at hl
    unfold stableSort
    rw [stableSort_agree R B h l hl.2]
    exact insertBefore_congr R B a _ fun b hb => h a b (hl.1 b ((perm_stableSort B l).mem_iff.1 hb))

/-- A sort by a comparison of the numbers alone. -/
theorem sortedFrom_key {n : ℕ} (key : Fin n → EReal) (R : Fin n → Fin n → Bool)
    (hR : ∀ a b, R a b = true ↔ key a < key b) : sortedFrom R = place key := by
  have e : sortPositions n R = sortPositions n (ordBy key) := by
    refine stableSort_agree R (ordBy key) (fun a b hab => ?_) _ (List.pairwise_lt_finRange n)
    refine Bool.eq_iff_iff.2 ((hR b a).trans ?_)
    rw [ordBy_iff]
    exact ⟨Or.inl, fun h => h.elim id fun h => absurd hab (not_lt_of_gt h.2)⟩
  funext k
  unfold place sortedFrom
  rw [List.get_of_eq e]
  rfl

variable {n : ℕ} (key : Fin n → EReal)

theorem place_injective : Function.Injective (place key) := sortedFrom_injective _
theorem place_surjective : Function.Surjective (place key) := sortedFrom_surjective _

/-- An earlier place of the result comes before a later one. -/
theorem place_before {i j : Fin n} (h : i < j) : ordBy key (place key i) (place key j) = true := by
  have hB := ordBy_total key
  have hne : place key i ≠ place key j := fun e => (ne_of_lt h) (place_injective key e)
  rcases hB.total _ _ hne with h1 | h1
  · exact h1
  · have := sortedFrom_noInversion (ordBy key) (ordBy key) (fun a b hab => hB.asymm a b hab) (fun _ _ h => h) hB.negTrans i j h
    unfold place at h1
    rw [this] at h1
    exact absurd h1 (by decide)

/-- The numbers do not fall along the result. -/
theorem place_sorted {i j : Fin n} (h : i ≤ j) : key (place key i) ≤ key (place key j) := by
  rcases eq_or_lt_of_le h with rfl | h
  · exact le_refl _
  · rcases (ordBy_iff _ _ _).1 (place_before key h) with h1 | h1
    · exact h1.le
    · exact h1.1.le

/-- A numbering of the places that respects the order counts along the result. -/
theorem place_number (f : Fin n → Fin n) (hf : ∀ a b, ordBy key a b = true → f a < f b) (i : Fin n) :
    f (place key i) = i := by
  have hm : StrictMono (f ∘ place key) := fun i j h => hf _ _ (place_before key h)
  have hs : Function.Surjective (f ∘ place key) := Finite.injective_iff_surjective.1 hm.injective
  have e : f ∘ place key = id :=
    (hm.range_inj strictMono_id).1 (by rw [hs.range_eq, Set.range_id])
  exact congrFun e i

/-- A longer list whose further numbers are all greater is sorted alike. -/
theorem place_longer {k : ℕ} (hk : n ≤ k) (long : Fin k → EReal) (h : ∀ a : Fin n, long (a.castLE hk) = key a)
    (hl : ∀ (a : Fin n) (p : Fin k), n ≤ p.val → key a < long p) (i : Fin n) :
    place long (i.castLE hk) = (place key i).castLE hk := by
  have hB := ordBy_total long
  have hc : ∀ a b : Fin n, ordBy key a b = true → ordBy long (a.castLE hk) (b.castLE hk) = true := by
    intro a b hab
    rw [ordBy_iff] at hab ⊢
    rw [h, h]
    exact hab
  refine hB.sortedFrom_eq_of_prefix hk (fun i => (place key i).castLE hk)
    (fun a b e => place_injective key (Fin.castLE_injective hk e)) (fun i j hij => ?_) (fun i p hp => ?_) i
  · exact hB.asymm _ _ (hc _ _ (place_before key hij))
  · have hn : n ≤ p.val := by
      by_contra hlt
      obtain ⟨j, hj⟩ := place_surjective key ⟨p.val, by omega⟩
      exact hp j (Fin.ext (show (place key j).val = p.val by rw [hj]))
    refine hB.asymm _ _ ((ordBy_iff _ _ _).2 (Or.inl ?_))
    rw [h]
    exact hl _ _ hn

end Cert.Nms

end
-- ==== Proof.Nms.RefValue.lean ====
module

public import proofs.«01_k».proof.Proof.Nms.RefLoop
public import proofs.«01_k».proof.Proof.Nms.Order
public import Idealize.ShloMosaic.Lib.SortFacts

/-!
# What the reference computes

The reference's values as functions of its two arguments: before the loop the boxes and scores put in
order, the table of overlaps and the first mask; after it the masked scores and the two results.
-/

set_option maxRecDepth 16384

@[expose] public section

noncomputable section

namespace Cert.ReferenceIdeal.Nms

open Idealize.ShloMosaic Cert.ReferenceIdeal Cert.ReferenceIdeal.Gen Cert.ReferenceIdeal.Value
open Idealize.ShloMosaic.TcCoe
open Cert.Nms

abbrev Boxes : Type := FVec Ideal S5000x4 .f32
abbrev List1 : Type := FVec Ideal S5000 .f32
abbrev Words : Type := IVec S5000 32
abbrev Vals : Type := Valuation τ sig (Elt Ideal)

/-- The order of the scores, best first. -/
def orderW (s : List1) : Words := (Host.sort2 S5000 0 comparator_f32_i32_d0 (Host.negf s) (iotaInDim S5000 32 0)).2

/-- An index counted from the end when it is negative. -/
def wrap (w : Words) : Words :=
  select (cmpi .slt w (broadcastInDim S5000 ![] bcast_S_S5000 (constantI S_ 32 0#32)))
    (addi w (broadcastInDim S5000 ![] bcast_S_S5000 (constantI S_ 32 5000#32))) w

def boxesAt (b : Boxes) (w : Words) : Boxes :=
  Host.gather gather_S5000x4_S5000x1_S5000x4_1_0_n_n_0_1_14 b (broadcastInDim S5000x1 ![0] bcast_S5000_S5000x1_0 (wrap w))
def scoresAt (s : List1) (w : Words) : List1 :=
  Host.gather gather_S5000_S5000x1_S5000_n_0_n_n_0_1_1 s (broadcastInDim S5000x1 ![0] bcast_S5000_S5000x1_0 (wrap w))

/-- A list down the rows, and along the columns, of a square. -/
def tall (x : List1) : Table :=
  broadcastInDim S5000x5000 ![0, 1] bcast_S5000x1_S5000x5000_0_1 (broadcastInDim S5000x1 ![0] bcast_S5000_S5000x1_0 x)
def wide (x : List1) : Table :=
  broadcastInDim S5000x5000 ![0, 1] bcast_S1x5000_S5000x5000_0_1 (broadcastInDim S1x5000 ![1] bcast_S5000_S1x5000_1 x)

/-- The four coordinates of the boxes. -/
def colA (B : Boxes) : List1 := shapeCast S5000 (extractStridedSlice S5000x1 ![0, 0] B slices_S5000x4_S5000x1_0_0) shapeCasts_S5000x1_S5000
def colB (B : Boxes) : List1 := shapeCast S5000 (extractStridedSlice S5000x1 ![0, 1] B slices_S5000x4_S5000x1_0_1) shapeCasts_S5000x1_S5000
def colC (B : Boxes) : List1 := shapeCast S5000 (extractStridedSlice S5000x1 ![0, 2] B slices_S5000x4_S5000x1_0_2) shapeCasts_S5000x1_S5000
def colD (B : Boxes) : List1 := shapeCast S5000 (extractStridedSlice S5000x1 ![0, 3] B slices_S5000x4_S5000x1_0_3) shapeCasts_S5000x1_S5000

def areasOf (a b c d : List1) : List1 := mulf (subf c a) (subf d b)

def zeroT : Table := broadcastInDim S5000x5000 ![] bcast_S_S5000x5000 (constant S_ .f32 0x00000000#32)
def tinyT : Table := broadcastInDim S5000x5000 ![] bcast_S_S5000x5000 (constant S_ .f32 0x3089705F#32)

/-- The common area, of the four bounds of the common part. -/
def interT (a b c d : Table) : Table := mulf (maximumf (subf c a) zeroT) (maximumf (subf d b) zeroT)
/-- The overlap, of the areas and the common area. -/
def quoT (r : List1) (i : Table) : Table := Host.divf i (maximumf (subf (addf (tall r) (wide r)) i) tinyT)

def overlaps (B : Boxes) : Table :=
  quoT (areasOf (colA B) (colB B) (colC B) (colD B))
    (interT (maximumf (tall (colA B)) (wide (colA B))) (maximumf (tall (colB B)) (wide (colB B)))
      (minimumf (tall (colC B)) (wide (colC B))) (minimumf (tall (colD B)) (wide (colD B))))

def firstMask (s : List1) : Mask := cmpf .ogt s (broadcastInDim S5000 ![] bcast_S_S5000 (constant S_ .f32 0x3D4CCCCD#32))

/-- The lines before the loop, in six pieces. -/
def opsA : List (HloOp τ sig (Elt Ideal)) := hostOps0_2.take 18
def opsB : List (HloOp τ sig (Elt Ideal)) := (hostOps0_2.drop 18).take 11
def opsC : List (HloOp τ sig (Elt Ideal)) := ((hostOps0_2.drop 18).drop 11).take 20
def opsD : List (HloOp τ sig (Elt Ideal)) := (((hostOps0_2.drop 18).drop 11).drop 20).take 9
def opsE : List (HloOp τ sig (Elt Ideal)) := ((((hostOps0_2.drop 18).drop 11).drop 20).drop 9).take 10
def opsG : List (HloOp τ sig (Elt Ideal)) := ((((hostOps0_2.drop 18).drop 11).drop 20).drop 9).drop 10

variable (V : Vals)

theorem pieces : StableHlo.after hostOps0_2 V =
    StableHlo.after opsG (StableHlo.after opsE (StableHlo.after opsD (StableHlo.after opsC (StableHlo.after opsB (StableHlo.after opsA V))))) := by
  rw [← StableHlo.after_append, ← StableHlo.after_append, ← StableHlo.after_append, ← StableHlo.after_append, ← StableHlo.after_append]
  unfold opsA opsB opsC opsD opsE opsG
  rw [List.take_append_drop, List.take_append_drop, List.take_append_drop, List.take_append_drop, List.take_append_drop]

theorem read_order : StableHlo.after hostOps0_1 (StableHlo.after hostOps0 V) (Proc.devRef .tc main_v1) = orderW (V (Proc.devRef .tc main_arg1)) := by
  after_reads_simp
  rfl
theorem order_arg0 : StableHlo.after hostOps0_1 (StableHlo.after hostOps0 V) (Proc.devRef .tc main_arg0) = V (Proc.devRef .tc main_arg0) := by
  after_reads_simp
theorem order_arg1 : StableHlo.after hostOps0_1 (StableHlo.after hostOps0 V) (Proc.devRef .tc main_arg1) = V (Proc.devRef .tc main_arg1) := by
  after_reads_simp

theorem a_boxes : StableHlo.after opsA V (Proc.devRef .tc main_v8) = boxesAt (V (Proc.devRef .tc main_arg0)) (V (Proc.devRef .tc main_v1)) := by
  unfold opsA; after_reads_simp; rfl
theorem a_scores : StableHlo.after opsA V (Proc.devRef .tc main_v15) = scoresAt (V (Proc.devRef .tc main_arg1)) (V (Proc.devRef .tc main_v1)) := by
  unfold opsA; after_reads_simp; rfl

theorem b_a : StableHlo.after opsB V (Proc.devRef .tc main_v17) = colA (V (Proc.devRef .tc main_v8)) := by
  unfold opsB; after_reads_simp; rfl
theorem b_b : StableHlo.after opsB V (Proc.devRef .tc main_v19) = colB (V (Proc.devRef .tc main_v8)) := by
  unfold opsB; after_reads_simp; rfl
theorem b_c : StableHlo.after opsB V (Proc.devRef .tc main_v21) = colC (V (Proc.devRef .tc main_v8)) := by
  unfold opsB; after_reads_simp; rfl
theorem b_d : StableHlo.after opsB V (Proc.devRef .tc main_v23) = colD (V (Proc.devRef .tc main_v8)) := by
  unfold opsB; after_reads_simp; rfl
theorem b_area : StableHlo.after opsB V (Proc.devRef .tc main_v26) = areasOf (colA (V (Proc.devRef .tc main_v8)))
    (colB (V (Proc.devRef .tc main_v8))) (colC (V (Proc.devRef .tc main_v8))) (colD (V (Proc.devRef .tc main_v8))) := by
  unfold opsB; after_reads_simp; rfl
theorem b_8 : StableHlo.after opsB V (Proc.devRef .tc main_v8) = V (Proc.devRef .tc main_v8) := by
  unfold opsB; after_reads_simp
theorem b_15 : StableHlo.after opsB V (Proc.devRef .tc main_v15) = V (Proc.devRef .tc main_v15) := by
  unfold opsB; after_reads_simp

theorem c_a : StableHlo.after opsC V (Proc.devRef .tc main_v31) = maximumf (tall (V (Proc.devRef .tc main_v17))) (wide (V (Proc.devRef .tc main_v17))) := by
  unfold opsC; after_reads_simp; rfl
theorem c_b : StableHlo.after opsC V (Proc.devRef .tc main_v36) = maximumf (tall (V (Proc.devRef .tc main_v19))) (wide (V (Proc.devRef .tc main_v19))) := by
  unfold opsC; after_reads_simp; rfl
theorem c_c : StableHlo.after opsC V (Proc.devRef .tc main_v41) = minimumf (tall (V (Proc.devRef .tc main_v21))) (wide (V (Proc.devRef .tc main_v21))) := by
  unfold opsC; after_reads_simp; rfl
theorem c_d : StableHlo.after opsC V (Proc.devRef .tc main_v46) = minimumf (tall (V (Proc.devRef .tc main_v23))) (wide (V (Proc.devRef .tc main_v23))) := by
  unfold opsC; after_reads_simp; rfl
theorem c_8 : StableHlo.after opsC V (Proc.devRef .tc main_v8) = V (Proc.devRef .tc main_v8) := by
  unfold opsC; after_reads_simp
theorem c_15 : StableHlo.after opsC V (Proc.devRef .tc main_v15) = V (Proc.devRef .tc main_v15) := by
  unfold opsC; after_reads_simp
theorem c_26 : StableHlo.after opsC V (Proc.devRef .tc main_v26) = V (Proc.devRef .tc main_v26) := by
  unfold opsC; after_reads_simp

theorem d_inter : StableHlo.after opsD V (Proc.devRef .tc main_v53) = interT (V (Proc.devRef .tc main_v31)) (V (Proc.devRef .tc main_v36))
    (V (Proc.devRef .tc main_v41)) (V (Proc.devRef .tc main_v46)) := by
  unfold opsD; after_reads_simp; rfl
theorem d_8 : StableHlo.after opsD V (Proc.devRef .tc main_v8) = V (Proc.devRef .tc main_v8) := by
  unfold opsD; after_reads_simp
theorem d_15 : StableHlo.after opsD V (Proc.devRef .tc main_v15) = V (Proc.devRef .tc main_v15) := by
  unfold opsD; after_reads_simp
theorem d_26 : StableHlo.after opsD V (Proc.devRef .tc main_v26) = V (Proc.devRef .tc main_v26) := by
  unfold opsD; after_reads_simp

theorem e_quo : StableHlo.after opsE V (Proc.devRef .tc main_v62) = quoT (V (Proc.devRef .tc main_v26)) (V (Proc.devRef .tc main_v53)) := by
  unfold opsE; after_reads_simp; rfl
theorem e_8 : StableHlo.after opsE V (Proc.devRef .tc main_v8) = V (Proc.devRef .tc main_v8) := by
  unfold opsE; after_reads_simp
theorem e_15 : StableHlo.after opsE V (Proc.devRef .tc main_v15) = V (Proc.devRef .tc main_v15) := by
  unfold opsE; after_reads_simp

theorem g_table : StableHlo.after opsG V (Proc.devRef .tc main_v66_0) = V (Proc.devRef .tc main_v62) := by
  unfold opsG; after_reads_simp; rfl
theorem g_places : StableHlo.after opsG V (Proc.devRef .tc main_v66_1) = iotaInDim S5000 32 0 := by
  unfold opsG; after_reads_simp; rfl
theorem g_index : StableHlo.after opsG V (Proc.devRef .tc main_v66_3) = constantI S_ 32 (BitVec.ofNat 32 0) := by
  unfold opsG; after_reads_simp; rfl
theorem g_mask : StableHlo.after opsG V (Proc.devRef .tc main_v66_4) = firstMask (V (Proc.devRef .tc main_v15)) := by
  unfold opsG; after_reads_simp; rfl
theorem g_8 : StableHlo.after opsG V (Proc.devRef .tc main_v8) = V (Proc.devRef .tc main_v8) := by
  unfold opsG; after_reads_simp
theorem g_15 : StableHlo.after opsG V (Proc.devRef .tc main_v15) = V (Proc.devRef .tc main_v15) := by
  unfold opsG; after_reads_simp

/-- The scores of the kept boxes, and −1 for the others. -/
def masked (q : Mask) (s : List1) : List1 := select q s (broadcastInDim S5000 ![] bcast_S_S5000 (constant S_ .f32 0xBF800000#32))

def bestS (x : List1) : FVec Ideal S300 .f32 := (Host.topK S300 0 (FloatOps.cmpfTotal .gt) x sliceFits_S5000_S300).1
def bestW (x : List1) : IVec S300 32 := (Host.topK S300 0 (FloatOps.cmpfTotal .gt) x sliceFits_S5000_S300).2

/-- The boxes with the given indices, an index counted from the end when it is negative. -/
def wrapBest (w : IVec S300 32) : IVec S300 32 :=
  select (cmpi .slt w (broadcastInDim S300 ![] bcast_S_S300 (constantI S_ 32 0#32)))
    (addi w (broadcastInDim S300 ![] bcast_S_S300 (constantI S_ 32 5000#32))) w
def bestBoxes (B : Boxes) (w : IVec S300 32) : FVec Ideal S300x4 .f32 :=
  Host.gather gather_S5000x4_S300x1_S300x4_1_0_n_n_0_1_14 B (broadcastInDim S300x1 ![0] bcast_S300_S300x1_0 (wrapBest w))

/-- The lines after the loop. -/
abbrev tail (V : Vals) : Vals := StableHlo.after hostOps0_5 (StableHlo.after hostOps0_4 (StableHlo.after hostOps0_3 V))

theorem tail_masked : StableHlo.after hostOps0_4 (StableHlo.after hostOps0_3 V) (Proc.devRef .tc main_v67) =
    masked (V (Proc.devRef .tc main_v66_4)) (V (Proc.devRef .tc main_v15)) := by
  after_reads_simp
  rfl
theorem tail_8 : StableHlo.after hostOps0_4 (StableHlo.after hostOps0_3 V) (Proc.devRef .tc main_v8) = V (Proc.devRef .tc main_v8) := by
  after_reads_simp

theorem tail_values : tail V (Proc.devRef .tc main_values) = bestS (masked (V (Proc.devRef .tc main_v66_4)) (V (Proc.devRef .tc main_v15))) := by
  rw [← tail_masked]
  unfold tail
  generalize StableHlo.after hostOps0_4 (StableHlo.after hostOps0_3 V) = W
  after_reads_simp
  rfl

theorem tail_boxes : tail V (Proc.devRef .tc main_v74) =
    bestBoxes (V (Proc.devRef .tc main_v8)) (bestW (masked (V (Proc.devRef .tc main_v66_4)) (V (Proc.devRef .tc main_v15)))) := by
  rw [← tail_masked, ← tail_8 V]
  unfold tail
  generalize StableHlo.after hostOps0_4 (StableHlo.after hostOps0_3 V) = W
  after_reads_simp
  rfl

variable (m : (ℓ : Loc nD τ sig) → Buf (Elt Ideal) ℓ) (c : Dev nD)

/-- The two arguments, and the boxes and scores in order. -/
abbrev argB : Boxes := m (c.tc.loc main_arg0)
abbrev argS : List1 := m (c.tc.loc main_arg1)
abbrev sortedB : Boxes := boxesAt (argB m c) (orderW (argS m c))
abbrev sortedS : List1 := scoresAt (argS m c) (orderW (argS m c))

theorem entry_pieces : entry m c = StableHlo.after opsG (StableHlo.after opsE (StableHlo.after opsD (StableHlo.after opsC
    (StableHlo.after opsB (StableHlo.after opsA (StableHlo.after hostOps0_1 (StableHlo.after hostOps0 (StableHlo.launchContents m c)))))))) :=
  pieces (StableHlo.after hostOps0_1 (StableHlo.after hostOps0 (StableHlo.launchContents m c)))

theorem entry_8 : entry m c (Proc.devRef .tc main_v8) = sortedB m c := by
  rw [entry_pieces, g_8, e_8, d_8, c_8, b_8, a_boxes, read_order, order_arg0]
theorem entry_15 : entry m c (Proc.devRef .tc main_v15) = sortedS m c := by
  rw [entry_pieces, g_15, e_15, d_15, c_15, b_15, a_scores, read_order, order_arg1]
theorem entry_table : entry m c (Proc.devRef .tc main_v66_0) = overlaps (sortedB m c) := by
  rw [entry_pieces, g_table, e_quo, d_inter, d_26, c_26, c_a, c_b, c_c, c_d, b_a, b_b, b_c, b_d, b_area, a_boxes, read_order, order_arg0]
  rfl
theorem entry_mask : entry m c (Proc.devRef .tc main_v66_4) = firstMask (sortedS m c) := by
  rw [entry_pieces, g_mask, e_15, d_15, c_15, b_15, a_scores, read_order, order_arg1]

theorem entry_before : Before (entry m c) (overlaps (sortedB m c)) (firstMask (sortedS m c)) 0 :=
  ⟨entry_table m c, by rw [entry_pieces, g_places], by rw [entry_pieces, g_index], entry_mask m c⟩

/-- The mask when the loop is left. -/
def kept : Mask := (STEP^[5000] (entry m c)) (Proc.devRef .tc main_v66_4)

theorem kept_iff (j : Fin 5000) : kept m c (ValueIdx.ix1 j) = 1#1 ↔
    greedy (alive0 (firstMask (sortedS m c))) (over (overlaps (sortedB m c))) j :=
  loop_mask _ _ _ (entry_before m c) j

/-- What the operations after the loop read. -/
abbrev left : Vals := StableHlo.after condOps (atK m 5000 c)

theorem left_mask : left m c (Proc.devRef .tc main_v66_4) = kept m c :=
  (cond_keeps _ main_v66_4 (by decide)).trans (atK_agree m c 5000 main_v66_4 (by decide))
theorem left_8 : left m c (Proc.devRef .tc main_v8) = sortedB m c :=
  (left_keeps m c (by decide +kernel)).trans (entry_8 m c)
theorem left_15 : left m c (Proc.devRef .tc main_v15) = sortedS m c :=
  (left_keeps m c (by decide +kernel)).trans (entry_15 m c)

/-- The reference's two results. -/
theorem last_values : last m c (Proc.devRef .tc main_values) = bestS (masked (kept m c) (sortedS m c)) := by
  rw [← left_mask, ← left_15]
  exact tail_values (left m c)
theorem last_boxes : last m c (Proc.devRef .tc main_v74) = bestBoxes (sortedB m c) (bestW (masked (kept m c) (sortedS m c))) := by
  rw [← left_mask, ← left_15, ← left_8]
  exact tail_boxes (left m c)

end Cert.ReferenceIdeal.Nms

end
-- ==== Proof.Nms.Host.lean ====
module

public import proofs.«01_k».proof.Proof.Nms.Run
public import proofs.«01_k».proof.Proof.Gen.KernelIdeal.Launch
public import Idealize.ShloMosaic.Lib.StableHlo.RunRead
public import Idealize.ShloMosaic.Lib.Pipeline.Value

/-!
# What the kernel is given

The boxes and the scores are padded and sorted together by falling score. The kernel is given each
of the five sorted lists as a row, and the four sorted coordinates as columns as well.
-/

set_option maxRecDepth 16384

@[expose] public section

noncomputable section

namespace Cert.KernelIdeal.Nms

open Idealize.ShloMosaic Cert.KernelIdeal
open Idealize.ShloMosaic.TcCoe
open Cert.KernelIdeal.Facts₀

/-- The boxes, the scores. -/
abbrev Boxes : Type := FVec Ideal S5000x4 .f32
abbrev Scores : Type := FVec Ideal S5000 .f32
/-- A padded list. -/
abbrev Padded : Type := FVec Ideal S5120 .f32

/-- A list of 5000 numbers with 120 of one more number behind it. -/
def padWith (w : BitVec 32) (a : Scores) : Padded :=
  concatenate S5120 0 [⟨S5000, a⟩, ⟨S120, broadcastInDim S120 ![] bcast_S_S120 (constant S_ .f32 w)⟩]
    concatenates_S5000_S120_S5120_d0

/-- The sort key: the negated score, and a very large number behind. -/
def keyP (s : Scores) : Padded := padWith 0x7F61B1E6#32 (Host.negf s)

/-- One coordinate of the boxes as a list. -/
def coordP {o : Fin 2 → ℕ} (h : S5000x4.Slices o S5000x1) (b : Boxes) : Padded :=
  padWith 0x00000000#32 (shapeCast S5000 (extractStridedSlice S5000x1 o b h) shapeCasts_S5000x1_S5000)

/-- The five padded lists. -/
structure Five where
  k : Padded
  a : Padded
  b : Padded
  c : Padded
  d : Padded

/-- The five lists of the boxes and the scores. -/
def fiveOf (b : Boxes) (s : Scores) : Five :=
  ⟨keyP s, coordP slices_S5000x4_S5000x1_0_0 b, coordP slices_S5000x4_S5000x1_0_1 b,
    coordP slices_S5000x4_S5000x1_0_2 b, coordP slices_S5000x4_S5000x1_0_3 b⟩

/-- A list rearranged as the sort rearranges the five. -/
def sortP (L : Five) (x : Padded) : Padded :=
  Host.sortBy S5120 0 (comparator_f32_f32_f32_f32_f32_d0 (F := Ideal)) (fun j => (L.k j, L.a j, L.b j, L.c j, L.d j)) x

/-- The contents of a padded list by number. -/
def lst (x : Padded) : ℕ → Ideal .f32 := fun j => if h : j < 5120 then x (ValueIdx.ix1 ⟨j, h⟩) else 0

/-- What the kernel is given. -/
def inpOf (b : Boxes) (s : Scores) : Inp Ideal :=
  let L := fiveOf b s
  ⟨lst (sortP L L.a), lst (sortP L L.b), lst (sortP L L.c), lst (sortP L L.d), lst (Host.negf (sortP L L.k))⟩

variable (V : Valuation τ sig (Elt Ideal))

/-- The contents after the operations before the kernel. -/
abbrev before : Valuation τ sig (Elt Ideal) := StableHlo.after Gen.hostOps0 V

/-- The padding, the sort, the rows and columns. -/
def opsPad : List (HloOp τ sig (Elt Ideal)) := Gen.hostOps0.take 24
def opsSort : List (HloOp τ sig (Elt Ideal)) := (Gen.hostOps0.drop 24).take 5
def opsShape : List (HloOp τ sig (Elt Ideal)) := (Gen.hostOps0.drop 24).drop 5

theorem before_eq : before V = StableHlo.after opsShape (StableHlo.after opsSort (StableHlo.after opsPad V)) := by
  rw [← StableHlo.after_append, ← StableHlo.after_append]
  unfold opsPad opsSort opsShape before
  rw [List.take_append_drop, List.take_append_drop]

/-- The five padded lists of the contents. -/
abbrev fiveV : Five := fiveOf (V (Proc.devRef .tc main_arg0)) (V (Proc.devRef .tc main_arg1))

/-- What the kernel is given, of the contents. -/
abbrev inpV : Inp Ideal := inpOf (V (Proc.devRef .tc main_arg0)) (V (Proc.devRef .tc main_arg1))

/-- A list as a row, and as a column. -/
theorem cast_list_row (x : Padded) (h : S5120.ShapeCasts S1x5120) : shapeCast S1x5120 x h = row 5120 (lst x) := by
  funext i
  have hi : (i 1).val < 5120 := (i 1).isLt
  have h0 : (i 0).val = 0 := Nat.lt_one_iff.mp (i 0).isLt
  refine (shapeCast_apply x h i (ValueIdx.ix1 ⟨(i 1).val, hi⟩) ?_).trans ?_
  · refine (Shape.rowMajor_val_one _).trans (Eq.trans ?_ (Shape.rowMajor_val_two i).symm)
    rw [h0, Nat.zero_mul, Nat.zero_add]
  · unfold row lst
    rw [dif_pos hi]

theorem cast_list_col (x : Padded) (h : S5120.ShapeCasts S5120x1) : shapeCast S5120x1 x h = col 5120 (lst x) := by
  funext i
  have hi : (i 0).val < 5120 := (i 0).isLt
  have h0 : (i 1).val = 0 := Nat.lt_one_iff.mp (i 1).isLt
  refine (shapeCast_apply x h i (ValueIdx.ix1 ⟨(i 0).val, hi⟩) ?_).trans ?_
  · refine (Shape.rowMajor_val_one _).trans (Eq.trans ?_ (Shape.rowMajor_val_two i).symm)
    rw [h0, Nat.add_zero]
    exact (Nat.mul_one _).symm
  · unfold col lst
    rw [dif_pos hi]

/-- The five lists held by the buffers. -/
abbrev heldFive (U : Valuation τ sig (Elt Ideal)) : Five :=
  ⟨U (Proc.devRef .tc main_v2), U (Proc.devRef .tc main_v6), U (Proc.devRef .tc main_v10), U (Proc.devRef .tc main_v14),
    U (Proc.devRef .tc main_v18)⟩

theorem pad_k : StableHlo.after opsPad V (Proc.devRef .tc main_v2) = (fiveV V).k := by
  after_reads_simp
  rfl

theorem pad_a : StableHlo.after opsPad V (Proc.devRef .tc main_v6) = (fiveV V).a := by
  after_reads_simp
  rfl

theorem pad_b : StableHlo.after opsPad V (Proc.devRef .tc main_v10) = (fiveV V).b := by
  after_reads_simp
  rfl

theorem pad_c : StableHlo.after opsPad V (Proc.devRef .tc main_v14) = (fiveV V).c := by
  after_reads_simp
  rfl

theorem pad_d : StableHlo.after opsPad V (Proc.devRef .tc main_v18) = (fiveV V).d := by
  after_reads_simp
  rfl

theorem held_pad : heldFive (StableHlo.after opsPad V) = fiveV V := by
  unfold heldFive
  rw [pad_k, pad_a, pad_b, pad_c, pad_d]

variable (U : Valuation τ sig (Elt Ideal))

theorem sort_0 : StableHlo.after opsSort U (Proc.devRef .tc main_v19_0) = sortP (heldFive U) (heldFive U).k := by
  after_reads_simp
  rfl

theorem sort_1 : StableHlo.after opsSort U (Proc.devRef .tc main_v19_1) = sortP (heldFive U) (heldFive U).a := by
  after_reads_simp
  rfl

theorem sort_2 : StableHlo.after opsSort U (Proc.devRef .tc main_v19_2) = sortP (heldFive U) (heldFive U).b := by
  after_reads_simp
  rfl

theorem sort_3 : StableHlo.after opsSort U (Proc.devRef .tc main_v19_3) = sortP (heldFive U) (heldFive U).c := by
  after_reads_simp
  rfl

theorem sort_4 : StableHlo.after opsSort U (Proc.devRef .tc main_v19_4) = sortP (heldFive U) (heldFive U).d := by
  after_reads_simp
  rfl

theorem before_s : before V (Proc.devRef .tc main_v21) = row 5120 (inpV V).s := by
  refine Eq.trans ?_ (cast_list_row (Host.negf (sortP (fiveV V) (fiveV V).k)) shapeCasts_S5120_S1x5120)
  rw [before_eq, ← held_pad, ← sort_0]
  generalize StableHlo.after opsSort (StableHlo.after opsPad V) = W
  after_reads_simp
  rfl

theorem before_x1_row : before V (Proc.devRef .tc main_v22) = row 5120 (inpV V).x1 := by
  refine Eq.trans ?_ (cast_list_row (sortP (fiveV V) (fiveV V).a) shapeCasts_S5120_S1x5120)
  rw [before_eq, ← held_pad, ← sort_1]
  generalize StableHlo.after opsSort (StableHlo.after opsPad V) = W
  after_reads_simp
  rfl

theorem before_y1_row : before V (Proc.devRef .tc main_v23) = row 5120 (inpV V).y1 := by
  refine Eq.trans ?_ (cast_list_row (sortP (fiveV V) (fiveV V).b) shapeCasts_S5120_S1x5120)
  rw [before_eq, ← held_pad, ← sort_2]
  generalize StableHlo.after opsSort (StableHlo.after opsPad V) = W
  after_reads_simp
  rfl

theorem before_x2_row : before V (Proc.devRef .tc main_v24) = row 5120 (inpV V).x2 := by
  refine Eq.trans ?_ (cast_list_row (sortP (fiveV V) (fiveV V).c) shapeCasts_S5120_S1x5120)
  rw [before_eq, ← held_pad, ← sort_3]
  generalize StableHlo.after opsSort (StableHlo.after opsPad V) = W
  after_reads_simp
  rfl

theorem before_y2_row : before V (Proc.devRef .tc main_v25) = row 5120 (inpV V).y2 := by
  refine Eq.trans ?_ (cast_list_row (sortP (fiveV V) (fiveV V).d) shapeCasts_S5120_S1x5120)
  rw [before_eq, ← held_pad, ← sort_4]
  generalize StableHlo.after opsSort (StableHlo.after opsPad V) = W
  after_reads_simp
  rfl

theorem before_x1_col : before V (Proc.devRef .tc main_v26) = col 5120 (inpV V).x1 := by
  refine Eq.trans ?_ (cast_list_col (sortP (fiveV V) (fiveV V).a) shapeCasts_S5120_S5120x1)
  rw [before_eq, ← held_pad, ← sort_1]
  generalize StableHlo.after opsSort (StableHlo.after opsPad V) = W
  after_reads_simp
  rfl

theorem before_y1_col : before V (Proc.devRef .tc main_v27) = col 5120 (inpV V).y1 := by
  refine Eq.trans ?_ (cast_list_col (sortP (fiveV V) (fiveV V).b) shapeCasts_S5120_S5120x1)
  rw [before_eq, ← held_pad, ← sort_2]
  generalize StableHlo.after opsSort (StableHlo.after opsPad V) = W
  after_reads_simp
  rfl

theorem before_x2_col : before V (Proc.devRef .tc main_v28) = col 5120 (inpV V).x2 := by
  refine Eq.trans ?_ (cast_list_col (sortP (fiveV V) (fiveV V).c) shapeCasts_S5120_S5120x1)
  rw [before_eq, ← held_pad, ← sort_3]
  generalize StableHlo.after opsSort (StableHlo.after opsPad V) = W
  after_reads_simp
  rfl

theorem before_y2_col : before V (Proc.devRef .tc main_v29) = col 5120 (inpV V).y2 := by
  refine Eq.trans ?_ (cast_list_col (sortP (fiveV V) (fiveV V).d) shapeCasts_S5120_S5120x1)
  rw [before_eq, ← held_pad, ← sort_4]
  generalize StableHlo.after opsSort (StableHlo.after opsPad V) = W
  after_reads_simp
  rfl

end Cert.KernelIdeal.Nms
-- ==== Proof.Nms.SortBoth.lean ====
module

public import proofs.«01_k».proof.Proof.Nms.RefValue
public import proofs.«01_k».proof.Proof.Nms.Host
public import Idealize.ShloMosaic.Lib.Routing.Ops
public import Idealize.ShloMosaic.Lib.Routing.OpsSet

/-!
# The sorts, by places

Each sort of either program, and the reference's pick of the greatest, reads its lists at the places
`place` gives for the sort's key.
-/

set_option maxRecDepth 16384

@[expose] public section

noncomputable section

namespace Cert.Nms

open Idealize.ShloMosaic
open Cert.ReferenceIdeal.Nms (bit_true)

/-- A sort's key with its zeros made one zero: over the extended reals, the key. -/
theorem same_key (x : EReal) : Scalar.select (FloatOps.cmpf (F := Ideal) (φ := .f32) .une x x) (FloatOps.ofBits (F := Ideal) .f32 0x7FC00000#32)
    (Scalar.select (FloatOps.cmpf (F := Ideal) (φ := .f32) .oeq x (FloatOps.ofBits (F := Ideal) .f32 0x00000000#32))
      (FloatOps.ofBits (F := Ideal) .f32 0x00000000#32) x) = x := by
  have h1 : ¬FloatOps.cmpf (F := Ideal) (φ := .f32) .une x x = 1#1 := fun h => ((bit_true (x ≠ x)).1 h) rfl
  refine (if_neg h1).trans ?_
  by_cases h : FloatOps.cmpf (F := Ideal) (φ := .f32) .oeq x (FloatOps.ofBits (F := Ideal) .f32 0x00000000#32) = 1#1
  · exact (if_pos h).trans ((bit_true (x = _)).1 h).symm
  · exact if_neg h

theorem ref_before (l r : EReal × BitVec 32) :
    Cert.ReferenceIdeal.comparator_f32_i32_d0 (F := Ideal) l r = 1#1 ↔ l.1 < r.1 := by
  unfold Cert.ReferenceIdeal.comparator_f32_i32_d0
  dsimp only
  rw [same_key, same_key]
  exact bit_true _

theorem kernel_before (l r : EReal × EReal × EReal × EReal × EReal) :
    Cert.KernelIdeal.comparator_f32_f32_f32_f32_f32_d0 (F := Ideal) l r = 1#1 ↔ l.1 < r.1 := by
  unfold Cert.KernelIdeal.comparator_f32_f32_f32_f32_f32_d0
  dsimp only
  rw [same_key, same_key]
  exact bit_true _

/-- A list read through a sort of rank one. -/
theorem sortBy_place {n : ℕ} {α β : Type} (cmp : α → α → BitVec 1) (rows : (⟨1, ![n]⟩ : Shape).Idx → α)
    (x : (⟨1, ![n]⟩ : Shape).Idx → β) (key : Fin n → EReal)
    (h : ∀ a b, cmp (rows (ValueIdx.ix1 a)) (rows (ValueIdx.ix1 b)) = 1#1 ↔ key a < key b) (i : Fin n) :
    Host.sortBy (⟨1, ![n]⟩ : Shape) 0 cmp rows x (ValueIdx.ix1 i) = x (ValueIdx.ix1 (place key i)) := by
  have al : ∀ k : Fin n, (ValueIdx.ix1 i : (⟨1, ![n]⟩ : Shape).Idx).along ⟨0, Nat.one_pos⟩ k = ValueIdx.ix1 k := fun k => by
    funext a
    match a with
    | ⟨0, _⟩ => rfl
  unfold Host.sortBy
  refine (dif_pos (show 0 < 1 from Nat.one_pos)).trans ?_
  refine (congrArg x (al _)).trans (congrArg (fun k => x (ValueIdx.ix1 k)) ?_)
  refine congrFun (sortedFrom_key key _ fun a b => ?_) i
  rw [beq_iff_eq]
  refine Iff.trans ?_ (h a b)
  rw [al, al]

/-- A list and a payload read through a sort of rank one. -/
theorem sort2_place {n : ℕ} {α β : Type} (cmp : α × β → α × β → BitVec 1) (x : (⟨1, ![n]⟩ : Shape).Idx → α)
    (y : (⟨1, ![n]⟩ : Shape).Idx → β) (key : Fin n → EReal)
    (h : ∀ a b, cmp (x (ValueIdx.ix1 a), y (ValueIdx.ix1 a)) (x (ValueIdx.ix1 b), y (ValueIdx.ix1 b)) = 1#1 ↔ key a < key b) (i : Fin n) :
    (Host.sort2 (⟨1, ![n]⟩ : Shape) 0 cmp x y).1 (ValueIdx.ix1 i) = x (ValueIdx.ix1 (place key i)) ∧
    (Host.sort2 (⟨1, ![n]⟩ : Shape) 0 cmp x y).2 (ValueIdx.ix1 i) = y (ValueIdx.ix1 (place key i)) := by
  have e := Host.sort2_eq_sortBy (⟨1, ![n]⟩ : Shape) 0 cmp x y
  exact ⟨(congrFun (congrArg Prod.fst e) _).trans (sortBy_place cmp (fun j => (x j, y j)) x key h i),
    (congrFun (congrArg Prod.snd e) _).trans (sortBy_place cmp (fun j => (x j, y j)) y key h i)⟩

/-- A list put down a column of indices. -/
theorem index_col {n : ℕ} {α : Type} (w : (⟨1, ![n]⟩ : Shape).Idx → α) (h) (hn : n ≠ 1) (i : Fin n) :
    broadcastInDim (⟨2, ![n, 1]⟩ : Shape) ![0] h w (ValueIdx.ix2 i 0) = w (ValueIdx.ix1 i) := by
  unfold broadcastInDim
  refine congrArg w (funext fun a => ?_)
  match a with
  | ⟨0, _⟩ => exact dif_neg hn

end Cert.Nms

namespace Cert.ReferenceIdeal.Nms

open Idealize.ShloMosaic Cert.ReferenceIdeal Cert.ReferenceIdeal.Gen
open Cert.Nms

/-- The place in the reference's input of the box that comes `i`-th. -/
def src (s : List1) : Fin 5000 → Fin 5000 := place fun a => -s (ValueIdx.ix1 a)

theorem orderW_at (s : List1) (i : Fin 5000) : orderW s (ValueIdx.ix1 i) = BitVec.ofNat 32 (src s i).val :=
  (sort2_place (n := 5000) comparator_f32_i32_d0 (Host.negf s) (iotaInDim S5000 32 0) (fun a => -s (ValueIdx.ix1 a))
    (fun a b => ref_before _ _) i).2

theorem wrap_at (w : Words) (i : Fin 5000) (k : Fin 5000) (h : w (ValueIdx.ix1 i) = BitVec.ofNat 32 k.val) :
    wrap w (ValueIdx.ix1 i) = BitVec.ofNat 32 k.val := by
  unfold wrap
  refine (select_slt_zero_of_nonneg _ _ _ _ ?_).trans h
  rw [h, toInt_ofNat_of_lt (by have := k.isLt; omega)]
  omega

theorem row_at (b : Boxes) (w : Words) (i k : Fin 5000) (h : w (ValueIdx.ix1 i) = BitVec.ofNat 32 k.val) (y : Fin 4) :
    boxesAt b w (ValueIdx.ix2 i y) = b (ValueIdx.ix2 k y) := by
  have h' := wrap_at w i k h
  unfold boxesAt
  generalize wrap w = u at h'
  exact Routing.gather_row (nb := 5000) (B := 4) (n := 5000) gather_S5000x4_S5000x1_S5000x4_1_0_n_n_0_1_14 rfl rfl rfl rfl rfl b _ i y k
    ((index_col (n := 5000) u _ (by decide) i).trans h') (by norm_num)

theorem entry_at (s : List1) (w : Words) (i k : Fin 5000) (h : w (ValueIdx.ix1 i) = BitVec.ofNat 32 k.val) :
    scoresAt s w (ValueIdx.ix1 i) = s (ValueIdx.ix1 k) := by
  have h' := wrap_at w i k h
  unfold scoresAt
  generalize wrap w = u at h'
  exact Routing.gather_take1 (N := 5000) (n := 5000) gather_S5000_S5000x1_S5000_n_0_n_n_0_1_1 rfl rfl rfl rfl s _ i k
    ((index_col (n := 5000) u _ (by decide) i).trans h') (by norm_num)

theorem sortedB_at (b : Boxes) (s : List1) (i : Fin 5000) (y : Fin 4) :
    boxesAt b (orderW s) (ValueIdx.ix2 i y) = b (ValueIdx.ix2 (src s i) y) := row_at b _ i _ (orderW_at s i) y

theorem sortedS_at (s : List1) (i : Fin 5000) : scoresAt s (orderW s) (ValueIdx.ix1 i) = s (ValueIdx.ix1 (src s i)) :=
  entry_at s _ i _ (orderW_at s i)

/-- The place among the boxes in order of the `i`-th greatest score. -/
def best (x : List1) : Fin 5000 → Fin 5000 := place fun a => -x (ValueIdx.ix1 a)

theorem greater (x y : EReal) : FloatOps.cmpfTotal (F := Ideal) (φ := .f32) .gt x y = 1#1 ↔ -x < -y :=
  (bit_true (y < x)).trans EReal.neg_lt_neg_iff.symm

/-- The first three hundred of a list. -/
theorem front {α : Type} (i : Fin 300) (h : S5000.Slices (fun _ => 0) S300) (x : S5000.Idx → α) :
    extractStridedSlice S300 (fun _ => 0) x h (ValueIdx.ix1 i) = x (ValueIdx.ix1 (i.castLE (by decide))) := by
  unfold extractStridedSlice
  refine congrArg x (funext fun a => Fin.ext ?_)
  match a with
  | ⟨0, _⟩ => show 0 + i.val = i.val; omega

/-- The places, as the pick numbers them. -/
abbrev marks : Words := fun i => if hd : 0 < S5000.rank then iotaInDim S5000 32 ⟨0, hd⟩ i else 0#32

theorem pick_place (x : List1) (i : Fin 5000) :
    (Host.sort2 S5000 0 (fun l r => FloatOps.cmpfTotal (F := Ideal) (φ := .f32) .gt l.1 r.1) x marks).1 (ValueIdx.ix1 i) = x (ValueIdx.ix1 (best x i)) ∧
    (Host.sort2 S5000 0 (fun l r => FloatOps.cmpfTotal (F := Ideal) (φ := .f32) .gt l.1 r.1) x marks).2 (ValueIdx.ix1 i) = marks (ValueIdx.ix1 (best x i)) :=
  sort2_place (n := 5000) (fun l r => FloatOps.cmpfTotal (F := Ideal) (φ := .f32) .gt l.1 r.1) x marks (fun a => -x (ValueIdx.ix1 a))
    (fun a b => greater _ _) i

theorem bestS_at (x : List1) (i : Fin 300) : bestS x (ValueIdx.ix1 i) = x (ValueIdx.ix1 (best x (i.castLE (by decide)))) := by
  refine Eq.trans ?_ (pick_place x (i.castLE (by decide))).1
  unfold bestS Host.topK
  exact front i sliceFits_S5000_S300 (Host.sort2 S5000 0 (fun l r => FloatOps.cmpfTotal (F := Ideal) (φ := .f32) .gt l.1 r.1) x marks).1

theorem bestW_at (x : List1) (i : Fin 300) :
    bestW x (ValueIdx.ix1 i) = BitVec.ofNat 32 (best x (i.castLE (by decide))).val := by
  refine Eq.trans ?_ ((pick_place x (i.castLE (by decide))).2.trans (dif_pos (show 0 < 1 from Nat.one_pos)))
  unfold bestW Host.topK
  exact front i sliceFits_S5000_S300 (Host.sort2 S5000 0 (fun l r => FloatOps.cmpfTotal (F := Ideal) (φ := .f32) .gt l.1 r.1) x marks).2

theorem bestBoxes_at (B : Boxes) (w : IVec S300 32) (i : Fin 300) (k : Fin 5000) (h : w (ValueIdx.ix1 i) = BitVec.ofNat 32 k.val) (y : Fin 4) :
    bestBoxes B w (ValueIdx.ix2 i y) = B (ValueIdx.ix2 k y) := by
  have h' : wrapBest w (ValueIdx.ix1 i) = BitVec.ofNat 32 k.val := by
    unfold wrapBest
    refine (select_slt_zero_of_nonneg _ _ _ _ ?_).trans h
    rw [h, toInt_ofNat_of_lt (by have := k.isLt; omega)]
    omega
  unfold bestBoxes
  generalize wrapBest w = u at h'
  exact Routing.gather_row (nb := 5000) (B := 4) (n := 300) gather_S5000x4_S300x1_S300x4_1_0_n_n_0_1_14 rfl rfl rfl rfl rfl B _ i y k
    ((index_col (n := 300) u _ (by decide) i).trans h') (by norm_num)

end Cert.ReferenceIdeal.Nms

end
-- ==== Proof.Nms.Geometry.lean ====
module

public import proofs.«01_k».proof.Proof.Nms.Sweep
public import proofs.«01_k».proof.Proof.Nms.Host
public import Mathlib.Tactic.Linarith
public import Mathlib.Tactic.NormNum

/-!
# Overlaps of proper boxes

Over boxes with real corners and sides that are not too short, the two ways of computing an overlap agree,
the overlap does not depend on which box comes first, and a box moved far to the left overlaps nothing.
-/

set_option maxRecDepth 16384

@[expose] public section

noncomputable section

namespace Cert.Nms

open Idealize.ShloMosaic
open Cert.KernelIdeal.Nms (half half_pos inter quo area farLeft)

/-- The numbers the programs and the precondition write down. -/
abbrev tiny : EReal := Ideal.ofBits .f32 0x3089705F#32
abbrev side : EReal := Ideal.ofBits .f32 0x38800000#32
abbrev low : EReal := Ideal.ofBits .f32 0xF149F2CA#32
abbrev high : EReal := Ideal.ofBits .f32 0x7149F2CA#32
abbrev farRight : EReal := Ideal.ofBits .f32 0x7F61B1E6#32

theorem side_eq : side = ((2⁻¹ ^ 14 : ℝ) : EReal) := by
  simp [side, Ideal.ofBits, Ideal.ieee]
  rw [← EReal.coe_mul]
  norm_num

theorem tiny_le : tiny ≤ ((2⁻¹ ^ 28 : ℝ) : EReal) := by
  simp [tiny, Ideal.ofBits, Ideal.ieee]
  rw [← EReal.coe_mul, EReal.coe_le_coe_iff]
  norm_num

theorem low_eq : low = ((-(13234890 * 2 ^ 76) : ℝ) : EReal) := by
  simp [low, Ideal.ofBits, Ideal.ieee]

theorem high_eq : high = ((13234890 * 2 ^ 76 : ℝ) : EReal) := by
  simp [high, Ideal.ofBits, Ideal.ieee]

theorem farLeft_eq : farLeft = ((-(14791142 * 2 ^ 104) : ℝ) : EReal) := by
  simp [farLeft, Ideal.ofBits, Ideal.ieee]

theorem farRight_eq : farRight = ((14791142 * 2 ^ 104 : ℝ) : EReal) := by
  simp [farRight, Ideal.ofBits, Ideal.ieee]

/-- A box with real corners, within bounds, of sides that are not too short. -/
structure Box (a b c d : EReal) (p q r s : ℝ) : Prop where
  a : a = p
  b : b = q
  c : c = r
  d : d = s
  low : -(13234890 * 2 ^ 76) ≤ p
  wide : 2⁻¹ ^ 14 ≤ r - p
  tall : 2⁻¹ ^ 14 ≤ s - q

theorem coe_max (x y : ℝ) : ((max x y : ℝ) : EReal) = max (x : EReal) y := EReal.coe_strictMono.monotone.map_max
theorem coe_min (x y : ℝ) : ((min x y : ℝ) : EReal) = min (x : EReal) y := EReal.coe_strictMono.monotone.map_min

/-- The common area of real boxes. -/
def interR (p q r s p' q' r' s' : ℝ) : ℝ := max (min r r' - max p p') 0 * max (min s s' - max q q') 0

theorem inter_real (p q r s p' q' r' s' : ℝ) :
    inter p q r s p' q' r' s' = (interR p q r s p' q' r' s' : EReal) := by
  unfold inter interR
  rw [EReal.coe_mul, coe_max, coe_max, EReal.coe_sub, EReal.coe_sub, coe_min, coe_min, coe_max, coe_max, EReal.coe_zero]

theorem area_real (p q r s : ℝ) : area p q r s = (((r - p) * (s - q) : ℝ) : EReal) := by
  unfold area
  rw [EReal.coe_mul, EReal.coe_sub, EReal.coe_sub]

theorem interR_le {p q r s p' q' r' s' : ℝ} (h1 : 0 ≤ r - p) (h2 : 0 ≤ s - q) :
    interR p q r s p' q' r' s' ≤ (r - p) * (s - q) := by
  unfold interR
  refine mul_le_mul (max_le ?_ h1) (max_le ?_ h2) (le_max_right _ _) h1
  · have := min_le_left r r'; have := le_max_left p p'; linarith
  · have := min_le_left s s'; have := le_max_left q q'; linarith

theorem side_pos : (0 : ℝ) < 2⁻¹ ^ 14 := by norm_num

theorem area_le {w h : ℝ} (hw : 2⁻¹ ^ 14 ≤ w) (hh : 2⁻¹ ^ 14 ≤ h) : (2⁻¹ ^ 28 : ℝ) ≤ w * h := by
  have := mul_le_mul hw hh side_pos.le (side_pos.le.trans hw)
  refine le_trans (le_of_eq ?_) this
  norm_num

variable {a b c d a' b' c' d' : EReal} {p q r s p' q' r' s' : ℝ}

/-- The union of two proper boxes is not tiny. -/
theorem union_ge (h : Box a b c d p q r s) (h' : Box a' b' c' d' p' q' r' s') :
    tiny ≤ area a b c d + area a' b' c' d' - inter a b c d a' b' c' d' := by
  rw [h.a, h.b, h.c, h.d, h'.a, h'.b, h'.c, h'.d, inter_real, area_real, area_real, ← EReal.coe_add, ← EReal.coe_sub]
  refine tiny_le.trans (EReal.coe_le_coe_iff.2 ?_)
  have h1 := interR_le (p := p) (q := q) (r := r) (s := s) (p' := p') (q' := q') (r' := r') (s' := s')
    (side_pos.le.trans h.wide) (side_pos.le.trans h.tall)
  have h2 := area_le h'.wide h'.tall
  linarith

/-- So the bound from below the reference puts on it does nothing. -/
theorem quo_bounded (h : Box a b c d p q r s) (h' : Box a' b' c' d' p' q' r' s') :
    Ideal.div (inter a b c d a' b' c' d') (max (area a b c d + area a' b' c' d' - inter a b c d a' b' c' d') tiny)
      = quo (area a b c d) a b c d a' b' c' d' := by
  rw [max_eq_left (union_ge h h')]
  rfl

theorem inter_comm (a b c d a' b' c' d' : EReal) : inter a b c d a' b' c' d' = inter a' b' c' d' a b c d := by
  unfold inter
  rw [min_comm c c', min_comm d d', max_comm a a', max_comm b b']

theorem quo_comm (a b c d a' b' c' d' : EReal) :
    quo (area a b c d) a b c d a' b' c' d' = quo (area a' b' c' d') a' b' c' d' a b c d := by
  unfold quo
  rw [inter_comm a b c d, show (c' - a') * (d' - b') = area a' b' c' d' from rfl,
    show (c - a) * (d - b) = area a b c d from rfl, add_comm (area a b c d)]

/-- A box moved far to the left overlaps nothing. -/
theorem quo_far (h : Box a b c d p q r s) (h' : Box a' b' c' d' p' q' r' s') :
    ¬half < quo (area a b c d) a b farLeft d a' b' c' d' := by
  have e : interR p q (-(14791142 * 2 ^ 104)) s p' q' r' s' = 0 := by
    unfold interR
    rw [max_eq_right (a := min (-(14791142 * 2 ^ 104)) r' - max p p'), zero_mul]
    refine sub_nonpos.2 ((min_le_left _ _).trans (le_trans ?_ (h'.low.trans (le_max_right _ _))))
    norm_num
  unfold quo
  rw [show (c' - a') * (d' - b') = area a' b' c' d' from rfl, h.a, h.b, h.c, h.d, h'.a, h'.b, h'.c, h'.d, farLeft_eq,
    inter_real, e, area_real, area_real, EReal.coe_zero, sub_zero, ← EReal.coe_add]
  unfold Ideal.div
  have h1 := area_le h.wide h.tall
  have h2 := area_le h'.wide h'.tall
  have h3 : (0 : ℝ) < 2⁻¹ ^ 28 := by norm_num
  rw [if_neg, zero_mul]
  · exact not_lt.2 (le_of_lt half_pos)
  · rw [← EReal.coe_zero, EReal.coe_eq_coe_iff]
    intro h0
    linarith

end Cert.Nms

end
-- ==== Proof.Nms.RefTable.lean ====
module

public import proofs.«01_k».proof.Proof.Nms.SortBoth
public import proofs.«01_k».proof.Proof.Nms.Geometry

/-!
# The reference's table, entry by entry
-/

set_option maxRecDepth 16384

@[expose] public section

noncomputable section

namespace Cert.ReferenceIdeal.Nms

open Idealize.ShloMosaic Cert.ReferenceIdeal Cert.ReferenceIdeal.Gen
open Cert.Nms
open Cert.KernelIdeal.Nms (inter quo area)

/-- A list down the rows of a square, and along its columns. -/
theorem tall_at (x : List1) (i j : Fin 5000) : tall x (ValueIdx.ix2 i j) = x (ValueIdx.ix1 i) := by
  unfold tall
  refine Eq.trans ?_ (index_col (n := 5000) x bcast_S5000_S5000x1_0 (by decide) i)
  unfold broadcastInDim
  refine congrArg x (funext fun a => ?_)
  match a with
  | ⟨0, _⟩ => rfl

theorem wide_at (x : List1) (i j : Fin 5000) : wide x (ValueIdx.ix2 i j) = x (ValueIdx.ix1 j) := by
  unfold wide broadcastInDim
  refine congrArg x (funext fun a => ?_)
  match a with
  | ⟨0, _⟩ => rfl

/-- One coordinate of the boxes. -/
theorem column_at {o : Fin 2 → ℕ} (B : Boxes) (h : S5000x4.Slices o S5000x1) (h') (y : Fin 4) (h0 : o 0 = 0) (h1 : o 1 = y.val) (i : Fin 5000) :
    shapeCast S5000 (extractStridedSlice S5000x1 o B h) h' (ValueIdx.ix1 i) = B (ValueIdx.ix2 i y) := by
  refine (shapeCast_apply _ h' (ValueIdx.ix1 i) (ValueIdx.ix2 i 0) ?_).trans ?_
  · refine (Shape.rowMajor_val_two _).trans (Eq.trans ?_ (Shape.rowMajor_val_one _).symm)
    show i.val * 1 + 0 = i.val
    omega
  · unfold extractStridedSlice
    refine congrArg B (funext fun a => Fin.ext ?_)
    match a with
    | ⟨0, _⟩ => show o 0 + i.val = i.val; omega
    | ⟨1, _⟩ => show o 1 + 0 = y.val; omega

variable (B : Boxes) (i j : Fin 5000)

theorem colA_at : colA B (ValueIdx.ix1 i) = B (ValueIdx.ix2 i 0) := column_at B _ _ 0 rfl rfl i
theorem colB_at : colB B (ValueIdx.ix1 i) = B (ValueIdx.ix2 i 1) := column_at B _ _ 1 rfl rfl i
theorem colC_at : colC B (ValueIdx.ix1 i) = B (ValueIdx.ix2 i 2) := column_at B _ _ 2 rfl rfl i
theorem colD_at : colD B (ValueIdx.ix1 i) = B (ValueIdx.ix2 i 3) := column_at B _ _ 3 rfl rfl i

/-- The overlap of the boxes `i` and `j`, as the reference computes it. -/
theorem overlaps_at : overlaps B (ValueIdx.ix2 i j) =
    Ideal.div (inter (B (ValueIdx.ix2 i 0)) (B (ValueIdx.ix2 i 1)) (B (ValueIdx.ix2 i 2)) (B (ValueIdx.ix2 i 3))
        (B (ValueIdx.ix2 j 0)) (B (ValueIdx.ix2 j 1)) (B (ValueIdx.ix2 j 2)) (B (ValueIdx.ix2 j 3)))
      (max (area (B (ValueIdx.ix2 i 0)) (B (ValueIdx.ix2 i 1)) (B (ValueIdx.ix2 i 2)) (B (ValueIdx.ix2 i 3))
        + area (B (ValueIdx.ix2 j 0)) (B (ValueIdx.ix2 j 1)) (B (ValueIdx.ix2 j 2)) (B (ValueIdx.ix2 j 3))
        - inter (B (ValueIdx.ix2 i 0)) (B (ValueIdx.ix2 i 1)) (B (ValueIdx.ix2 i 2)) (B (ValueIdx.ix2 i 3))
            (B (ValueIdx.ix2 j 0)) (B (ValueIdx.ix2 j 1)) (B (ValueIdx.ix2 j 2)) (B (ValueIdx.ix2 j 3))) tiny) := by
  have hz : ∀ x, zeroT x = 0 := fun x => Ideal.ofBits_zero_f32
  have hi : interT (maximumf (tall (colA B)) (wide (colA B))) (maximumf (tall (colB B)) (wide (colB B)))
      (minimumf (tall (colC B)) (wide (colC B))) (minimumf (tall (colD B)) (wide (colD B))) (ValueIdx.ix2 i j)
      = inter (B (ValueIdx.ix2 i 0)) (B (ValueIdx.ix2 i 1)) (B (ValueIdx.ix2 i 2)) (B (ValueIdx.ix2 i 3))
        (B (ValueIdx.ix2 j 0)) (B (ValueIdx.ix2 j 1)) (B (ValueIdx.ix2 j 2)) (B (ValueIdx.ix2 j 3)) := by
    show max (min (tall (colC B) (ValueIdx.ix2 i j)) (wide (colC B) (ValueIdx.ix2 i j)) - max (tall (colA B) (ValueIdx.ix2 i j)) (wide (colA B) (ValueIdx.ix2 i j))) (zeroT (ValueIdx.ix2 i j))
      * max (min (tall (colD B) (ValueIdx.ix2 i j)) (wide (colD B) (ValueIdx.ix2 i j)) - max (tall (colB B) (ValueIdx.ix2 i j)) (wide (colB B) (ValueIdx.ix2 i j))) (zeroT (ValueIdx.ix2 i j)) = _
    simp only [tall_at, wide_at, colA_at, colB_at, colC_at, colD_at, hz]
    rfl
  have hr : ∀ k, areasOf (colA B) (colB B) (colC B) (colD B) (ValueIdx.ix1 k)
      = area (B (ValueIdx.ix2 k 0)) (B (ValueIdx.ix2 k 1)) (B (ValueIdx.ix2 k 2)) (B (ValueIdx.ix2 k 3)) := fun k => by
    show (colC B (ValueIdx.ix1 k) - colA B (ValueIdx.ix1 k)) * (colD B (ValueIdx.ix1 k) - colB B (ValueIdx.ix1 k)) = _
    rw [colA_at, colB_at, colC_at, colD_at]
    rfl
  unfold overlaps quoT
  generalize interT _ _ _ _ = T at hi ⊢
  generalize areasOf _ _ _ _ = R at hr ⊢
  show Ideal.div (T (ValueIdx.ix2 i j)) (max (tall R (ValueIdx.ix2 i j) + wide R (ValueIdx.ix2 i j) - T (ValueIdx.ix2 i j)) tiny) = _
  rw [tall_at, wide_at, hr, hr, hi]

end Cert.ReferenceIdeal.Nms

end
-- ==== Proof.Nms.KerSort.lean ====
module

public import proofs.«01_k».proof.Proof.Nms.SortBoth
public import proofs.«01_k».proof.Proof.Nms.RefTable
public import proofs.«01_k».proof.Proof.Nms.Geometry

/-!
# What the kernel is given

The first 5000 of the kernel's boxes and scores are the reference's in order; the padding comes last.
-/

set_option maxRecDepth 16384

@[expose] public section

noncomputable section

namespace Cert.KernelIdeal.Nms

open Idealize.ShloMosaic Cert.KernelIdeal
open Cert.Nms
open Cert.ReferenceIdeal.Nms (src column_at)

theorem long : 5000 ≤ 5120 := by norm_num

/-- The precondition on the boxes and the scores. -/
structure Proper (b : Boxes) (s : Scores) : Prop where
  box : ∀ i : Fin 5000, ∃ p q r t : ℝ,
    Box (b (ValueIdx.ix2 i 0)) (b (ValueIdx.ix2 i 1)) (b (ValueIdx.ix2 i 2)) (b (ValueIdx.ix2 i 3)) p q r t
  score : ∀ i : Fin 5000, low ≤ s (ValueIdx.ix1 i)

/-- Where the first places are rearranged among themselves, the others are too. -/
theorem stays_behind {n k : ℕ} (hk : n ≤ k) (f : Fin k → Fin k) (g : Fin n → Fin n) (hf : Function.Injective f)
    (hg : Function.Surjective g) (h : ∀ i, f (i.castLE hk) = (g i).castLE hk) (i : Fin k) (hi : n ≤ i.val) : n ≤ (f i).val := by
  by_contra hlt
  obtain ⟨j, hj⟩ := hg ⟨(f i).val, not_le.1 hlt⟩
  have e : f (j.castLE hk) = f i := by
    rw [h, hj]
    exact Fin.ext rfl
  have e2 : (j.castLE hk).val = i.val := congrArg Fin.val (hf e)
  rw [Fin.val_castLE] at e2
  have := j.isLt
  omega

theorem pad_front (w : BitVec 32) (a : Scores) (i : Fin 5000) : padWith w a (ValueIdx.ix1 (i.castLE long)) = a (ValueIdx.ix1 i) := by
  unfold padWith
  refine concatenate_pair_apply_left (t := S5120) (s₁ := S5000) (s₂ := S120) 0 a _ _ _ rfl (ValueIdx.ix1 i) fun b => ?_
  match b with
  | ⟨0, _⟩ => rfl

theorem pad_back (w : BitVec 32) (a : Scores) (i : Fin 5120) (h : 5000 ≤ i.val) : padWith w a (ValueIdx.ix1 i) = Ideal.ofBits .f32 w := by
  have hi := i.isLt
  unfold padWith
  refine (concatenate_pair_apply_right (t := S5120) (s₁ := S5000) (s₂ := S120) 0 a _ _ _ rfl rfl
    (ValueIdx.ix1 ⟨i.val - 5000, by omega⟩) (fun b hb => ?_) ?_).trans rfl
  · match b with
    | ⟨0, _⟩ => exact absurd rfl hb
  · show i.val - 5000 + 5000 = i.val
    omega

/-- The sort's key. -/
abbrev key (s : Scores) : Fin 5120 → EReal := fun a => keyP s (ValueIdx.ix1 a)

theorem sortP_at (b : Boxes) (s : Scores) (x : Padded) (i : Fin 5120) :
    sortP (fiveOf b s) x (ValueIdx.ix1 i) = x (ValueIdx.ix1 (place (key s) i)) :=
  sortBy_place (n := 5120) _ _ x (key s) (fun _ _ => kernel_before _ _) i

variable (b : Boxes) (s : Scores) (P : Proper b s)
include P

theorem key_before (a : Fin 5000) (p : Fin 5120) (hp : 5000 ≤ p.val) : -s (ValueIdx.ix1 a) < key s p := by
  show _ < padWith _ _ _
  rw [pad_back _ _ _ hp]
  refine lt_of_le_of_lt (EReal.neg_le_neg_iff.2 (P.score a)) ?_
  rw [low_eq, show Ideal.ofBits .f32 0x7F61B1E6#32 = farRight from rfl, farRight_eq, ← EReal.coe_neg, EReal.coe_lt_coe_iff]
  norm_num

/-- The first 5000 places are those of the reference's sort. -/
theorem place_front (i : Fin 5000) : place (key s) (i.castLE long) = (src s i).castLE long :=
  place_longer (fun a => -s (ValueIdx.ix1 a)) long (key s) (fun a => pad_front _ _ a) (key_before b s P) i

/-- The padding comes last. -/
theorem place_back (i : Fin 5120) (hi : 5000 ≤ i.val) : 5000 ≤ (place (key s) i).val :=
  stays_behind long (place (key s)) (src s) (place_injective _) (place_surjective _) (place_front b s P) i hi

theorem coord_at {o : Fin 2 → ℕ} (h : S5000x4.Slices o S5000x1) (y : Fin 4) (h0 : o 0 = 0) (h1 : o 1 = y.val) (i : Fin 5000) :
    lst (sortP (fiveOf b s) (coordP h b)) i.val = b (ValueIdx.ix2 (src s i) y) := by
  unfold lst
  refine (dif_pos (show i.val < 5120 by have := i.isLt; omega)).trans ?_
  refine (sortP_at b s _ (i.castLE long)).trans ?_
  rw [place_front b s P i]
  refine (pad_front _ _ _).trans ?_
  exact column_at b h _ y h0 h1 (src s i)

theorem x1_at (i : Fin 5000) : (inpOf b s).x1 i.val = b (ValueIdx.ix2 (src s i) 0) := coord_at b s P _ 0 rfl rfl i
theorem y1_at (i : Fin 5000) : (inpOf b s).y1 i.val = b (ValueIdx.ix2 (src s i) 1) := coord_at b s P _ 1 rfl rfl i
theorem x2_at (i : Fin 5000) : (inpOf b s).x2 i.val = b (ValueIdx.ix2 (src s i) 2) := coord_at b s P _ 2 rfl rfl i
theorem y2_at (i : Fin 5000) : (inpOf b s).y2 i.val = b (ValueIdx.ix2 (src s i) 3) := coord_at b s P _ 3 rfl rfl i

theorem s_at (i : Fin 5000) : (inpOf b s).s i.val = s (ValueIdx.ix1 (src s i)) := by
  show lst (Host.negf (sortP (fiveOf b s) (keyP s))) i.val = _
  unfold lst
  refine (dif_pos (show i.val < 5120 by have := i.isLt; omega)).trans ?_
  show -sortP (fiveOf b s) (keyP s) (ValueIdx.ix1 (i.castLE long)) = _
  rw [sortP_at, place_front b s P i]
  refine (congrArg (fun z : EReal => -z) (pad_front _ _ _)).trans ?_
  exact neg_neg _

theorem s_back (i : ℕ) (h : 5000 ≤ i) (hi : i < 5120) : (inpOf b s).s i = -farRight := by
  show lst (Host.negf (sortP (fiveOf b s) (keyP s))) i = _
  unfold lst
  refine (dif_pos hi).trans ?_
  show -sortP (fiveOf b s) (keyP s) (ValueIdx.ix1 ⟨i, hi⟩) = _
  rw [sortP_at]
  exact congrArg (fun z : EReal => -z) (pad_back _ _ _ (place_back b s P ⟨i, hi⟩ h))

end Cert.KernelIdeal.Nms

end
-- ==== Proof.Nms.SameMask.lean ====
module

public import proofs.«01_k».proof.Proof.Nms.KerSort

/-!
# The two masks are one

On proper boxes the kernel's tests are the reference's, so both keep the same boxes.
-/

set_option maxRecDepth 16384

@[expose] public section

noncomputable section

namespace Cert.KernelIdeal.Nms

open Idealize.ShloMosaic Cert.KernelIdeal
open Cert.Nms
open Cert.ReferenceIdeal.Nms (src boxesAt scoresAt orderW overlaps overlaps_at sortedB_at sortedS_at firstMask alive0 over bit_true)

variable (b : Boxes) (s : Scores) (P : Proper b s)

/-- The reference's table and its first mask. -/
abbrev tableOf : Cert.ReferenceIdeal.Nms.Table := overlaps (boxesAt b (orderW s))
abbrev maskOf : Cert.ReferenceIdeal.Nms.Mask := firstMask (scoresAt s (orderW s))

/-- The kernel's test of the boxes `i` and `j`. -/
abbrev test (i j : ℕ) : Prop :=
  half < quo (area ((inpOf b s).x1 i) ((inpOf b s).y1 i) ((inpOf b s).x2 i) ((inpOf b s).y2 i)) ((inpOf b s).x1 i) ((inpOf b s).y1 i)
    ((inpOf b s).x2 i) ((inpOf b s).y2 i) ((inpOf b s).x1 j) ((inpOf b s).y1 j) ((inpOf b s).x2 j) ((inpOf b s).y2 j)

/-- The threshold of the scores is positive. -/
theorem thr_pos : (0 : EReal) < Ideal.ofBits .f32 0x3D4CCCCD#32 := by
  simp [Ideal.ofBits, Ideal.ieee]
  rw [← EReal.coe_mul, ← EReal.coe_zero, EReal.coe_lt_coe_iff]
  norm_num

theorem test_comm (i j : ℕ) : test b s i j ↔ test b s j i := by
  unfold test
  rw [quo_comm]

include P

theorem inp_box (i : Fin 5000) : ∃ p q r t : ℝ,
    Box ((inpOf b s).x1 i.val) ((inpOf b s).y1 i.val) ((inpOf b s).x2 i.val) ((inpOf b s).y2 i.val) p q r t := by
  rw [x1_at b s P, y1_at b s P, x2_at b s P, y2_at b s P]
  exact P.box (src s i)

/-- It is what the reference's table says. -/
theorem test_over (i j : Fin 5000) : test b s i.val j.val ↔ over (tableOf b s) i.val j.val := by
  obtain ⟨p, q, r, t, h⟩ := P.box (src s i)
  obtain ⟨p', q', r', t', h'⟩ := P.box (src s j)
  have e : tableOf b s (ValueIdx.ix2 i j) = _ := (overlaps_at (boxesAt b (orderW s)) i j)
  simp only [sortedB_at] at e
  rw [quo_bounded h h'] at e
  unfold test
  rw [x1_at b s P, y1_at b s P, x2_at b s P, y2_at b s P, x1_at b s P, y1_at b s P, x2_at b s P, y2_at b s P, ← e]
  exact ⟨fun h => ⟨i.isLt, j.isLt, h⟩, fun h => h.2.2⟩

theorem start_alive (i : Fin 5000) : start (inpOf b s) i.val ↔ alive0 (maskOf s) i.val := by
  have e : maskOf s (ValueIdx.ix1 i) = 1#1 ↔ Ideal.ofBits .f32 0x3D4CCCCD#32 < (inpOf b s).s i.val := by
    rw [s_at b s P, ← sortedS_at s i]
    exact bit_true _
  have hi := i.isLt
  exact ⟨fun h => ⟨i.isLt, e.2 h.1⟩, fun h => ⟨e.1 h.2, by omega⟩⟩

theorem start_real (i : ℕ) (h : start (inpOf b s) i) : i < 5000 := by
  by_contra hn
  have h1 : Ideal.ofBits .f32 0x3D4CCCCD#32 < (inpOf b s).s i := h.1
  rw [s_back b s P i (by omega) h.2, farRight_eq, ← EReal.coe_neg] at h1
  refine absurd (thr_pos.trans h1) (not_lt.2 ?_)
  rw [← EReal.coe_zero, EReal.coe_le_coe_iff]
  norm_num

theorem tests : Tests (inpOf b s) (over (tableOf b s)) where
  real := start_real b s P
  block o i j hji hi := by
    have e := (test_comm b s (o + i) (o + j)).trans (test_over b s P ⟨o + j, by omega⟩ ⟨o + i, hi⟩)
    exact ⟨fun h => e.1 h.1, fun h => ⟨e.2 h, hji⟩⟩
  rest o q j i hji hi := by
    by_cases hq : q j
    · have e := test_over b s P ⟨o + j, by omega⟩ ⟨i, hi⟩
      unfold clears
      rw [if_pos hq]
      exact e.trans (and_iff_right hq).symm
    · obtain ⟨p, q, r, t, h⟩ := inp_box b s P ⟨o + j, by omega⟩
      obtain ⟨p', q', r', t', h'⟩ := inp_box b s P ⟨i, hi⟩
      unfold clears
      rw [if_neg hq]
      exact iff_of_false (quo_far h h') fun hh => hq hh.1

/-- The kernel keeps what the reference keeps, and no padding. -/
theorem same_mask (i : Fin 5000) : final (inpOf b s) i.val ↔ greedy (alive0 (maskOf s)) (over (tableOf b s)) i.val :=
  (final_greedy (tests b s P) i.val).trans
    (greedy_congr _ _ (n := 5000) (fun k hk => start_alive b s P ⟨k, hk⟩) (fun _ _ _ _ => Iff.rfl) i.val i.isLt)

theorem final_real (i : ℕ) (h : final (inpOf b s) i) : i < 5000 :=
  start_real b s P i ((greedy_iff _ _ _).1 ((final_greedy (tests b s P) i).1 h)).1

/-- A kept score is above the threshold. -/
theorem final_score (i : ℕ) (h : final (inpOf b s) i) : Ideal.ofBits .f32 0x3D4CCCCD#32 < (inpOf b s).s i :=
  ((greedy_iff _ _ _).1 ((final_greedy (tests b s P) i).1 h)).1.1

end Cert.KernelIdeal.Nms

end
-- ==== Proof.Nms.Select.lean ====
module

public import proofs.«01_k».proof.Proof.Nms.Rank
public import Idealize.ShloMosaic.Lib.Pipeline.Value

/-!
# The kernel's pick

The kernel picks by a table of ones and zeros: row `r` of it has a one at the box whose rank is `r`.
A product with the table reads that box.
-/

set_option maxRecDepth 16384

@[expose] public section

noncomputable section

namespace Cert.KernelIdeal.Nms

open Idealize.ShloMosaic Cert.KernelIdeal
open scoped BigOperators
open Classical

variable [Facts]

/-- A whole number turned into a word. -/
theorem word_nr {n : ℕ} (h : n < 2 ^ 31) : FloatOps.fptosi (F := Ideal) (φ := .f32) 32 (nr n) = BitVec.ofNat 32 n := by
  show BitVec.ofInt 32 (Ideal.toIntClamped (-((2 ^ 31 : ℕ) : ℤ)) (((2 ^ 31 : ℕ) : ℤ) - 1) ((n : ℝ) : EReal)) = _
  rw [Ideal.toIntClamped_coe, if_pos (Nat.cast_nonneg n), Int.floor_natCast, min_eq_right (by omega), max_eq_right (by omega)]
  rfl

/-- The table of the pick. -/
theorem selP_at (g : ℕ → ℕ) (hg : ∀ k < 5120, g k < 2 ^ 31) (r : Fin 304) (k : Fin 5120) :
    selP (F := Ideal) (row 5120 fun j => nr (g j)) (ValueIdx.ix2 r k) = bit (g k.val = r.val) := by
  refine pick_ones _ _ ?_
  show IntOp.cmpi .eq (broadcastTo S304x5120 (fptosi 32 (row (F := Ideal) 5120 fun j => nr (g j))) _ (ValueIdx.ix2 r k)) (iota .tc S304x5120 32 [0] _ (ValueIdx.ix2 r k)) = 1#1 ↔ _
  rw [axis0]
  show IntOp.cmpi .eq (FloatOps.fptosi (F := Ideal) (φ := .f32) 32 (nr (g k.val))) (BitVec.ofNat 32 r.val) = 1#1 ↔ _
  rw [word_nr (hg k.val k.isLt)]
  exact word_eq (hg k.val k.isLt) (by omega)

/-- A sum with a single one. -/
theorem sum_pick {n : ℕ} (p : Fin n → Prop) (A : Fin n → EReal) (k : Fin n) (hk : p k) (one : ∀ j, p j → j = k) :
    ∑ j, bit (p j) * A j = A k := by
  rw [Finset.sum_eq_single k]
  · rw [bit_pos hk, one_mul]
  · intro j _ h
    rw [bit_neg (fun e => h (one j e)), zero_mul]
  · intro h; exact absurd (Finset.mem_univ _) h

/-- The two products of the pick, over any operands. -/
theorem times_col (m : FVec Ideal S304x5120 .f32) (x : FVec Ideal S1x5120 .f32) (c : FVec Ideal S304x1 .f32) (r : Fin 304) (z : Fin 1) :
    matmul dot_S304x5120_S1x5120_S304x1_1_1_0_0_n_n (some .fp32) m x c (ValueIdx.ix2 r z)
      = c (ValueIdx.ix2 r z) + ∑ k : Fin 5120, m (ValueIdx.ix2 r k) * x (ValueIdx.ix2 z k) :=
  Ideal.matmul_transposedRhs_apply (M := 304) (K := 5120) (N := 1) (some .fp32) m x c r z

theorem times_row (x : FVec Ideal S1x5120 .f32) (m : FVec Ideal S304x5120 .f32) (c : FVec Ideal S1x304 .f32) (z : Fin 1) (r : Fin 304) :
    matmul dot_S1x5120_S304x5120_S1x304_1_1_0_0_n_n (some .fp32) x m c (ValueIdx.ix2 z r)
      = c (ValueIdx.ix2 z r) + ∑ k : Fin 5120, x (ValueIdx.ix2 z k) * m (ValueIdx.ix2 r k) :=
  Ideal.matmul_transposedRhs_apply (M := 1) (K := 5120) (N := 304) (some .fp32) x m c z r

variable (g : ℕ → ℕ) (hg : ∀ k < 5120, g k < 2 ^ 31) (r : Fin 304) (k : Fin 5120) (hk : g k.val = r.val)
  (one : ∀ j : Fin 5120, g j.val = r.val → j = k)

include hg hk one

/-- The picked entry of a row. -/
theorem pickC_at (A : ℕ → Ideal .f32) (z : Fin 1) :
    pickC (selP (row 5120 fun j => nr (g j))) (row 5120 A) (ValueIdx.ix2 r z) = A k.val := by
  unfold pickC
  rw [times_col]
  show Ideal.ofBits .f32 0x00000000#32 + _ = _
  rw [zero_word, zero_add]
  simp only [selP_at g hg]
  exact sum_pick (fun j : Fin 5120 => g j.val = r.val) (fun j => A j.val) k hk one

/-- The picked score: the box's own if it is kept, and minus one otherwise. -/
theorem osP_at (p : ℕ → Prop) (s : ℕ → Ideal .f32) (z : Fin 1) :
    osP (selP (row 5120 fun j => nr (g j))) (row 5120 (ind p)) (row 5120 s) (ValueIdx.ix2 z r)
      = if p k.val then s k.val else Ideal.ofBits .f32 0xBF800000#32 := by
  unfold osP
  rw [times_row]
  show Ideal.ofBits .f32 0x00000000#32 + _ = _
  rw [zero_word, zero_add]
  have e : ∀ j : Fin 5120, select (cmpf .ogt (row (F := Ideal) 5120 (ind p)) (broadcast S1x5120 (cst Ideal 0x3F000000#32))) (row 5120 s)
      (broadcast S1x5120 (cst Ideal 0xBF800000#32)) (ValueIdx.ix2 z j) = if p j.val then s j.val else Ideal.ofBits .f32 0xBF800000#32 := fun j =>
    pick_bit (p j.val) _ ((cmp_gt _ _).trans (half_lt_bit _)) _ _
  simp only [selP_at g hg]
  rw [← sum_pick (fun j : Fin 5120 => g j.val = r.val) (fun j => if p j.val then s j.val else Ideal.ofBits .f32 0xBF800000#32) k hk one]
  exact Finset.sum_congr rfl fun j _ => by rw [mul_comm]; exact congrArg _ (e j)

/-- The four numbers of the picked box. -/
theorem oboxP_at (A B C D : ℕ → Ideal .f32) (y : Fin 4) :
    oboxP (selP (row 5120 fun j => nr (g j))) (row 5120 A) (row 5120 B) (row 5120 C) (row 5120 D) (ValueIdx.ix2 r y)
      = ![A k.val, B k.val, C k.val, D k.val] y := by
  have piece := fun (n : ℕ) (hn : n < 4) (E : ℕ → Ideal .f32) hx (hy : y = ⟨n, hn⟩) hp =>
    (concatenate_apply_piece (t := S304x4) 1
      [⟨S304x1, pickC (selP (row 5120 fun j => nr (g j))) (row 5120 A)⟩, ⟨S304x1, pickC (selP (row 5120 fun j => nr (g j))) (row 5120 B)⟩,
        ⟨S304x1, pickC (selP (row 5120 fun j => nr (g j))) (row 5120 C)⟩, ⟨S304x1, pickC (selP (row 5120 fun j => nr (g j))) (row 5120 D)⟩]
      Facts₀.concatenates_S304x1_S304x1_S304x1_S304x1_S304x4_d1 (ValueIdx.ix2 r y) n hn S304x1
      (pickC (selP (row 5120 fun j => nr (g j))) (row 5120 E)) hx rfl n hp (ValueIdx.ix2 r (0 : Fin 1))
      (fun b hb => by
        match b with
        | ⟨0, _⟩ => rfl
        | ⟨1, _⟩ => exact absurd rfl hb)
      (by rw [hy]; rfl)).trans (pickC_at g hg r k hk one E 0)
  unfold oboxP
  match y, piece with
  | 0, piece => exact piece 0 (by decide) A rfl rfl rfl
  | 1, piece => exact piece 1 (by decide) B rfl rfl rfl
  | 2, piece => exact piece 2 (by decide) C rfl rfl rfl
  | 3, piece => exact piece 3 (by decide) D rfl rfl rfl

end Cert.KernelIdeal.Nms

end

end
-- ==== Proof.Nms.Ranks.lean ====
module

public import proofs.«01_k».proof.Proof.Nms.Rank
public import proofs.«01_k».proof.Proof.Nms.Order

/-!
# Ranks count along the order by masked score

The boxes stand in order of score. With the removed boxes' scores replaced by one number below all kept
scores, the rank of a box is its place in the order by the replaced scores.
-/

set_option maxRecDepth 16384

@[expose] public section

noncomputable section

namespace Cert.KernelIdeal.Nms

open Idealize.ShloMosaic Cert.KernelIdeal
open Cert.Nms
open Classical

variable [Facts] (p : ℕ → Prop) (n : ℕ)

theorem cnt_step {a b : ℕ} (h : a < b) (ha : p a) : cnt p a < cnt p b := by
  have h1 := cnt_mono p (show a + 1 ≤ b from h)
  rw [cnt_succ, if_pos ha] at h1
  omega

/-- The number of places without the property does not fall either. -/
theorem gap_mono {a b : ℕ} (h : a ≤ b) : a - cnt p a ≤ b - cnt p b := by
  induction b, h using Nat.le_induction with
  | base => exact le_refl _
  | succ b _ ih =>
    have h1 := cnt_le p b
    rw [cnt_succ]
    split <;> omega

theorem gap_step {a b : ℕ} (h : a < b) (ha : ¬p a) : a - cnt p a < b - cnt p b := by
  have h1 := gap_mono p (show a + 1 ≤ b from h)
  have h2 := cnt_le p a
  rw [cnt_succ, if_neg ha] at h1
  omega

attribute [local irreducible] cnt

variable (hn : n ≤ 5120) (hp : ∀ i, p i → i < n)
include hn hp

theorem cnt_all {a : ℕ} (h : n ≤ a) : cnt p a = cnt p n := by
  induction a, h using Nat.le_induction with
  | base => rfl
  | succ a h ih =>
    rw [cnt_succ, if_neg (fun e => by have := hp a e; omega), ih]
    rfl

/-- The rank of a real place is a real place, and the others keep theirs. -/
theorem rank_lt {a : ℕ} (h : a < n) : rank p a < n := by
  unfold rank
  have h1 := cnt_all p n hn hp hn
  have h2 := cnt_le p n
  split
  · next ha => have := cnt_step p h ha; omega
  · next ha => have := gap_step p h ha; omega

theorem rank_back {a : ℕ} (h : n ≤ a) : rank p a = a := by
  unfold rank
  rw [if_neg (fun e => by have := hp a e; omega), cnt_all p n hn hp hn, cnt_all p n hn hp h]
  have := cnt_le p n
  omega

variable (S : Fin n → EReal) (low : EReal) (hS : ∀ i j, i ≤ j → S j ≤ S i) (hl : ∀ i : Fin n, p i.val → low < S i)

/-- The replaced scores, greatest first. -/
abbrev maskedKey : Fin n → EReal := fun a => -(if p a.val then S a else low)

include hS hl

theorem rank_mono (a b : Fin n) (h : ordBy (maskedKey p n S low) a b = true) : rank p a.val < rank p b.val := by
  rw [ordBy_iff] at h
  simp only [maskedKey, EReal.neg_lt_neg_iff, neg_inj] at h
  have hb := b.isLt
  have ha' := a.isLt
  unfold rank
  by_cases ha : p a.val <;> by_cases hb' : p b.val
  · rw [if_pos ha, if_pos hb'] at h
    rw [if_pos ha, if_pos hb']
    refine cnt_step p ?_ ha
    rcases h with h | h
    · by_contra hh
      exact absurd (hS b a (by simpa using hh)) (not_le.2 h)
    · exact h.2
  · rw [if_pos ha, if_neg hb']
    have := cnt_step p (show a.val < 5120 by omega) ha
    omega
  · rw [if_neg ha, if_pos hb'] at h
    have := hl b hb'
    rcases h with h | h
    · exact absurd h (not_lt.2 this.le)
    · exact absurd h.1 (ne_of_lt this)
  · rw [if_neg ha, if_neg hb'] at h
    rw [if_neg ha, if_neg hb']
    rcases h with h | h
    · exact absurd h (lt_irrefl _)
    · have := gap_step p h.2 ha
      omega

/-- The box at place `i` of that order has rank `i`. -/
theorem rank_place (i : Fin n) : rank p (place (maskedKey p n S low) i).val = i.val :=
  congrArg Fin.val (place_number (maskedKey p n S low) (fun a => ⟨rank p a.val, rank_lt p n hn hp a.isLt⟩)
    (fun a b h => rank_mono p n hn hp S low hS hl a b h) i)

/-- No other box has it. -/
theorem rank_only (i : Fin n) (j : ℕ) (h : rank p j = i.val) : j = (place (maskedKey p n S low) i).val := by
  have hj : j < n := by
    by_contra hh
    rw [rank_back p n hn hp (by omega)] at h
    omega
  obtain ⟨k, hk⟩ := place_surjective (maskedKey p n S low) ⟨j, hj⟩
  have e := rank_place p n hn hp S low hS hl k
  rw [hk] at e
  have : k = i := Fin.ext (e.symm.trans h)
  rw [← this, hk]

end Cert.KernelIdeal.Nms

end

end
-- ==== Proof.Nms.Launch.lean ====
module

public import proofs.«01_k».proof.Proof.Nms.Host
public import proofs.«01_k».proof.Proof.Nms.Body
public import proofs.«01_k».proof.Proof.Gen.KernelIdeal.Points
public import Idealize.ShloMosaic.Lib.Pipeline.FrameSuffix
public import Idealize.ShloMosaic.Lib.Pipeline.Value

/-!
# The launch of the kernel

The one grid point stages nine whole inputs, runs the body and writes two whole results back.
-/

set_option maxRecDepth 16384

@[expose] public section

noncomputable section

namespace Cert.KernelIdeal.Nms

open Idealize.ShloMosaic Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR nD τ) ℕ

variable (m : (ℓ : Loc nD τ sig) → Buf (Elt Ideal) ℓ) (ρ : Dev nD → PrngReg)

/-- The contents of a core's buffers before the program, and before the kernel. -/
abbrev start0 (c : Dev nD) : Valuation τ sig (Elt Ideal) := fun b => m (c, b)
abbrev enter (c : Dev nD) : Valuation τ sig (Elt Ideal) := before (start0 m c)

/-- What the kernel of a core is given. -/
abbrev inp (c : Dev nD) : Inp Ideal := inpV (start0 m c)

/-- The proof data: the arrays before the kernel, and the staging buffers after it. -/
def dats (_ : Fin 1) (c : Dev nD) : Dat τ (Elt Ideal) Unit ℕ (UR nD τ) ℕ (cfg0 (F := Ideal)) c where
  A w := enter m c (Proc.devRef .tc (Pipeline.arrRef spec0 w))
  after w _ := match w with
    | ⟨0, _⟩ => row 5120 (inp m c).x1
    | ⟨1, _⟩ => row 5120 (inp m c).y1
    | ⟨2, _⟩ => row 5120 (inp m c).x2
    | ⟨3, _⟩ => row 5120 (inp m c).y2
    | ⟨4, _⟩ => row 5120 (inp m c).s
    | ⟨5, _⟩ => col 5120 (inp m c).x1
    | ⟨6, _⟩ => col 5120 (inp m c).y1
    | ⟨7, _⟩ => col 5120 (inp m c).x2
    | ⟨8, _⟩ => col 5120 (inp m c).y2
    | ⟨9, _⟩ => oboxOf (inp m c)
    | ⟨10, _⟩ => osOf (inp m c)
  Φ _ := Pipeline.ΦA spec0 c
  q _ := fullShare
  owed _ := 0

theorem A_eq (c : Dev nD) (w : Fin (cfg0 (F := Ideal)).W) :
    (dats m 0 c).A w = enter m c (Proc.devRef .tc (Pipeline.arrRef spec0 w)) := by
  dsimp only [dats]

/-- The one block of a window is its whole array. -/
theorem block_row (X : FVec Ideal S1x5120 .f32) : (win0_0.blk t0_0).view.read (Elt Ideal) X = X := by
  funext i
  refine congrArg X ?_
  funext a
  apply Fin.ext
  show 0 * S1x5120.size a + 1 * (i a).val = (i a).val
  omega

theorem block_col (X : FVec Ideal S5120x1 .f32) : (win0_5.blk t0_0).view.read (Elt Ideal) X = X := by
  funext i
  refine congrArg X ?_
  funext a
  apply Fin.ext
  show 0 * S5120x1.size a + 1 * (i a).val = (i a).val
  omega

/-- Before the body an input's staging buffer holds its array. -/
theorem before_0 (c : Dev nD) (d) : (dats m 0 c).before 0 t0_0 d = row 5120 (inp m c).x1 := by
  have h : (dats m 0 c).before 0 t0_0 d = (win0_0.blk t0_0).view.read (Elt Ideal) ((dats m 0 c).A 0) := by
    unfold Dat.before
    rw [if_pos (by decide)]
    rfl
  rw [h, A_eq]
  exact (block_row _).trans (before_x1_row (start0 m c))

theorem before_1 (c : Dev nD) (d) : (dats m 0 c).before 1 t0_0 d = row 5120 (inp m c).y1 := by
  have h : (dats m 0 c).before 1 t0_0 d = (win0_1.blk t0_0).view.read (Elt Ideal) ((dats m 0 c).A 1) := by
    unfold Dat.before
    rw [if_pos (by decide)]
    rfl
  rw [h, A_eq]
  exact (block_row _).trans (before_y1_row (start0 m c))

theorem before_2 (c : Dev nD) (d) : (dats m 0 c).before 2 t0_0 d = row 5120 (inp m c).x2 := by
  have h : (dats m 0 c).before 2 t0_0 d = (win0_2.blk t0_0).view.read (Elt Ideal) ((dats m 0 c).A 2) := by
    unfold Dat.before
    rw [if_pos (by decide)]
    rfl
  rw [h, A_eq]
  exact (block_row _).trans (before_x2_row (start0 m c))

theorem before_3 (c : Dev nD) (d) : (dats m 0 c).before 3 t0_0 d = row 5120 (inp m c).y2 := by
  have h : (dats m 0 c).before 3 t0_0 d = (win0_3.blk t0_0).view.read (Elt Ideal) ((dats m 0 c).A 3) := by
    unfold Dat.before
    rw [if_pos (by decide)]
    rfl
  rw [h, A_eq]
  exact (block_row _).trans (before_y2_row (start0 m c))

theorem before_4 (c : Dev nD) (d) : (dats m 0 c).before 4 t0_0 d = row 5120 (inp m c).s := by
  have h : (dats m 0 c).before 4 t0_0 d = (win0_4.blk t0_0).view.read (Elt Ideal) ((dats m 0 c).A 4) := by
    unfold Dat.before
    rw [if_pos (by decide)]
    rfl
  rw [h, A_eq]
  exact (block_row _).trans (before_s (start0 m c))

theorem before_5 (c : Dev nD) (d) : (dats m 0 c).before 5 t0_0 d = col 5120 (inp m c).x1 := by
  have h : (dats m 0 c).before 5 t0_0 d = (win0_5.blk t0_0).view.read (Elt Ideal) ((dats m 0 c).A 5) := by
    unfold Dat.before
    rw [if_pos (by decide)]
    rfl
  rw [h, A_eq]
  exact (block_col _).trans (before_x1_col (start0 m c))

theorem before_6 (c : Dev nD) (d) : (dats m 0 c).before 6 t0_0 d = col 5120 (inp m c).y1 := by
  have h : (dats m 0 c).before 6 t0_0 d = (win0_6.blk t0_0).view.read (Elt Ideal) ((dats m 0 c).A 6) := by
    unfold Dat.before
    rw [if_pos (by decide)]
    rfl
  rw [h, A_eq]
  exact (block_col _).trans (before_y1_col (start0 m c))

theorem before_7 (c : Dev nD) (d) : (dats m 0 c).before 7 t0_0 d = col 5120 (inp m c).x2 := by
  have h : (dats m 0 c).before 7 t0_0 d = (win0_7.blk t0_0).view.read (Elt Ideal) ((dats m 0 c).A 7) := by
    unfold Dat.before
    rw [if_pos (by decide)]
    rfl
  rw [h, A_eq]
  exact (block_col _).trans (before_x2_col (start0 m c))

theorem before_8 (c : Dev nD) (d) : (dats m 0 c).before 8 t0_0 d = col 5120 (inp m c).y2 := by
  have h : (dats m 0 c).before 8 t0_0 d = (win0_8.blk t0_0).view.read (Elt Ideal) ((dats m 0 c).A 8) := by
    unfold Dat.before
    rw [if_pos (by decide)]
    rfl
  rw [h, A_eq]
  exact (block_col _).trans (before_y2_col (start0 m c))

/-- What each staging buffer holds after the body. -/
theorem after_0 (c : Dev nD) (t : Fin (cfg0 (F := Ideal)).N) : (dats m 0 c).after 0 t = row 5120 (inp m c).x1 := by
  dsimp only [dats]
theorem after_1 (c : Dev nD) (t : Fin (cfg0 (F := Ideal)).N) : (dats m 0 c).after 1 t = row 5120 (inp m c).y1 := by
  dsimp only [dats]
theorem after_2 (c : Dev nD) (t : Fin (cfg0 (F := Ideal)).N) : (dats m 0 c).after 2 t = row 5120 (inp m c).x2 := by
  dsimp only [dats]
theorem after_3 (c : Dev nD) (t : Fin (cfg0 (F := Ideal)).N) : (dats m 0 c).after 3 t = row 5120 (inp m c).y2 := by
  dsimp only [dats]
theorem after_4 (c : Dev nD) (t : Fin (cfg0 (F := Ideal)).N) : (dats m 0 c).after 4 t = row 5120 (inp m c).s := by
  dsimp only [dats]
theorem after_5 (c : Dev nD) (t : Fin (cfg0 (F := Ideal)).N) : (dats m 0 c).after 5 t = col 5120 (inp m c).x1 := by
  dsimp only [dats]
theorem after_6 (c : Dev nD) (t : Fin (cfg0 (F := Ideal)).N) : (dats m 0 c).after 6 t = col 5120 (inp m c).y1 := by
  dsimp only [dats]
theorem after_7 (c : Dev nD) (t : Fin (cfg0 (F := Ideal)).N) : (dats m 0 c).after 7 t = col 5120 (inp m c).x2 := by
  dsimp only [dats]
theorem after_8 (c : Dev nD) (t : Fin (cfg0 (F := Ideal)).N) : (dats m 0 c).after 8 t = col 5120 (inp m c).y2 := by
  dsimp only [dats]
theorem after_9 (c : Dev nD) (t : Fin (cfg0 (F := Ideal)).N) : (dats m 0 c).after 9 t = oboxOf (inp m c) := by
  dsimp only [dats]
theorem after_10 (c : Dev nD) (t : Fin (cfg0 (F := Ideal)).N) : (dats m 0 c).after 10 t = osOf (inp m c) := by
  dsimp only [dats]

/-- Holding a whole buffer. -/
theorem owns_open (c : Dev nD) (b : Ref sig .tc) (X : Buf (Elt Ideal) ((c : Thread nD τ).loc b)) :
    (owns (c : Thread nD τ) (Memref.whole b) fullShare X : sProp 𝕄) ⊢ pt c b X := by
  unfold owns
  simp only [Memref.view_whole, View.read_whole, View.set_whole]
  iintro ⟨%f, %hf, H⟩
  subst hf
  iexact H

theorem owns_close (c : Dev nD) (b : Ref sig .tc) (X : Buf (Elt Ideal) ((c : Thread nD τ).loc b)) :
    pt c b X ⊢ (owns (c : Thread nD τ) (Memref.whole b) fullShare X : sProp 𝕄) := by
  unfold owns
  simp only [Memref.view_whole, View.read_whole, View.set_whole]
  iintro H
  iexists X
  isplitr
  · ipureintro; rfl
  iexact H

/-- Any contents of a scratch row are a row of numbers. -/
def unrow (f : FVec Ideal S1x5120 .f32) : ℕ → Ideal .f32 :=
  fun j => if h : j < 5120 then f (ValueIdx.ix2 (0 : Fin 1) (⟨j, h⟩ : Fin 5120)) else 0

theorem row_unrow (f : FVec Ideal S1x5120 .f32) : row 5120 (unrow f) = f := by
  funext i
  unfold row unrow
  rw [dif_pos (show (i 1).val < 5120 from (i 1).isLt)]
  refine congrArg f ?_
  rw [ValueIdx.eq_ix2 i]
  congr 1
  exact Subsingleton.elim _ _

theorem body_obligation (c : Dev nD) : BodyObligation (dats m 0 c) (defs₀ (F := Ideal)) 𝒱₀ () Set.univ := fun t => by
  rw [fin_N0 t]
  rw [bigSep_W0, bigSep_W0]
  sl_whnfR [defs₀, Defs.onTc]
  simp only [before_0, before_1, before_2, before_3, before_4, before_5, before_6, before_7, before_8]
  rw [show (dats m 0 c).Φ t0_0.succ = Pipeline.ΦA spec0 c from rfl, show (dats m 0 c).Φ t0_0.castSucc = Pipeline.ΦA spec0 c from rfl,
    show (dats m 0 c).owesAt () t0_0.succ = (dats m 0 c).owesAt () t0_0.castSucc from rfl,
    after_0, after_1, after_2, after_3, after_4, after_5, after_6, after_7, after_8, after_9, after_10]
  unfold Pipeline.ΦA
  rw [scopedRest0_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl,
    show stage0_6 0 = Memref.whole cc0_stg6_0 from rfl, show stage0_7 0 = Memref.whole cc0_stg7_0 from rfl,
    show stage0_8 0 = Memref.whole cc0_stg8_0 from rfl, show stage0_9 0 = Memref.whole cc0_stg9_0 from rfl,
    show stage0_10 0 = Memref.whole cc0_stg10_0 from rfl]
  rw [body_eq, bodyCut_eq]
  iintro ⟨⟨⟨⟨%g0, G0⟩, ⟨%g1, G1⟩⟩, HP⟩, Ho, ⟨%d0, H0⟩, ⟨%d1, H1⟩, ⟨%d2, H2⟩, ⟨%d3, H3⟩, ⟨%d4, H4⟩, ⟨%d5, H5⟩, ⟨%d6, H6⟩,
    ⟨%d7, H7⟩, ⟨%d8, H8⟩, ⟨%d9, H9⟩, ⟨%d10, H10⟩⟩
  obtain ⟨σ', e1, e2, h⟩ := body_run c (inp m c) ⟨(dats m 0 c).before 9 t0_0 d9, (dats m 0 c).before 10 t0_0 d10, unrow g0, unrow g1⟩
  rw [← e1, ← e2]
  iapply (h _)
  isplitl [H0 H1 H2 H3 H4 H5 H6 H7 H8 H9 H10 G0 G1]
  · unfold St
    rw [row_unrow, row_unrow]
    isplitl [H0]
    · iapply (owns_open c cc0_stg0_0 _)
      iexact H0
    isplitl [H1]
    · iapply (owns_open c cc0_stg1_0 _)
      iexact H1
    isplitl [H2]
    · iapply (owns_open c cc0_stg2_0 _)
      iexact H2
    isplitl [H3]
    · iapply (owns_open c cc0_stg3_0 _)
      iexact H3
    isplitl [H4]
    · iapply (owns_open c cc0_stg4_0 _)
      iexact H4
    isplitl [H5]
    · iapply (owns_open c cc0_stg5_0 _)
      iexact H5
    isplitl [H6]
    · iapply (owns_open c cc0_stg6_0 _)
      iexact H6
    isplitl [H7]
    · iapply (owns_open c cc0_stg7_0 _)
      iexact H7
    isplitl [H8]
    · iapply (owns_open c cc0_stg8_0 _)
      iexact H8
    isplitl [H9]
    · iapply (owns_open c cc0_stg9_0 _)
      iexact H9
    isplitl [H10]
    · iapply (owns_open c cc0_stg10_0 _)
      iexact H10
    isplitl [G0]
    · iexact G0
    iexact G1
  unfold St
  iintro ⟨H0, H1, H2, H3, H4, H5, H6, H7, H8, H9, H10, G0, G1⟩
  isplitl [G0 G1 HP]
  · isplitl [G0 G1]
    · isplitl [G0]
      · iexists _
        iexact G0
      iexists _
      iexact G1
    iexact HP
  isplitl [Ho]
  · iexact Ho
  isplitl [H0]
  · iapply (owns_close c cc0_stg0_0 _)
    iexact H0
  isplitl [H1]
  · iapply (owns_close c cc0_stg1_0 _)
    iexact H1
  isplitl [H2]
  · iapply (owns_close c cc0_stg2_0 _)
    iexact H2
  isplitl [H3]
  · iapply (owns_close c cc0_stg3_0 _)
    iexact H3
  isplitl [H4]
  · iapply (owns_close c cc0_stg4_0 _)
    iexact H4
  isplitl [H5]
  · iapply (owns_close c cc0_stg5_0 _)
    iexact H5
  isplitl [H6]
  · iapply (owns_close c cc0_stg6_0 _)
    iexact H6
  isplitl [H7]
  · iapply (owns_close c cc0_stg7_0 _)
    iexact H7
  isplitl [H8]
  · iapply (owns_close c cc0_stg8_0 _)
    iexact H8
  isplitl [H9]
  · iapply (owns_close c cc0_stg9_0 _)
    iexact H9
  iapply (owns_close c cc0_stg10_0 _)
  iexact H10

/-! ### Around the kernel -/

/-- The host lines allocate nothing. -/
theorem hostOps1_fr : (hostOps1 : List (HloOp τ sig (Elt Ideal))).Forall fun op => op.fresh = ∅ :=
  ⟨rfl, rfl, rfl⟩

theorem hostOps0_fr : (hostOps0 : List (HloOp τ sig (Elt Ideal))).Forall fun op => op.fresh = ∅ := by
  repeat' (first | exact rfl | refine ⟨rfl, ?_⟩)

theorem hostOps1_tail : ∀ ops ∈ [hostOps1 (F := Ideal)], ∀ op ∈ ops,
    op.bufs ⊆ Pipeline.tailRefs sig Pipeline.Prefetch.none (cfg0 (F := Ideal)).spec := by
  intro ops hops op hop
  rw [List.mem_singleton] at hops
  subst hops
  exact Pipeline.sub_tailRefs _ _ op (List.forall_iff_forall_mem.mp hostOps1_sub op hop) fun k => k.elim0

theorem hostOps1_fresh : ∀ ops ∈ [hostOps1 (F := Ideal)], ∀ op ∈ ops, op.fresh = ∅ := by
  intro ops hops op hop
  rw [List.mem_singleton] at hops
  subst hops
  exact List.forall_iff_forall_mem.mp hostOps1_fr op hop

theorem hostOps1_keep : ∀ ops ∈ [hostOps1 (F := Ideal)], ∀ op ∈ ops, ∀ w,
    Proc.devRef .tc (Pipeline.arrRef (cfg0 (F := Ideal)).spec w) ∉ op.writes := by
  intro ops hops op hop w
  rw [List.mem_singleton] at hops
  subst hops
  simp only [hostOps1, List.mem_cons, List.mem_nil_iff, or_false] at hop
  rcases hop with rfl | rfl | rfl
  all_goals
    simp only [StableHlo.unary, StableHlo.reshape, Finset.mem_singleton]
    intro e
    have e := Proc.devRef_injective _ e
    revert w
    decide

theorem hmain (m : (ℓ : Loc nD τ sig) → Buf (Elt Ideal) ℓ) :
    Pipeline.HMainK (Ix := Unit) (Name := ℕ) (U := UR nD τ) (Lvl := ℕ) (cfgs (F := Ideal)) 0 defs₀ 𝒱₀ m main
      (fun c b => enter m c (Proc.devRef .tc b)) (fun _ => Pipeline.chain ([hostOps1].map StableHlo.seq)) := by
  have h := Pipeline.hmain_around (Ix := Unit) (Name := ℕ) (U := UR nD τ) (Lvl := ℕ) (cfgs (F := Ideal)) 0 defs₀ 𝒱₀ m main
    [hostOps0] [hostOps1] (by simp only [List.Forall]; exact hostOps0_sub) (by simp only [List.Forall]; exact hostOps0_fr) (main_chain (F := Ideal))
  rw [List.flatten_cons, List.flatten_nil, List.append_nil] at h
  exact h

set_option backward.isDefEq.respectTransparency.types false in
/-- The run of the whole program, as the library states it. -/
theorem run_main (m : (ℓ : Loc nD τ sig) → Buf (Elt Ideal) ℓ) (g : Dev nD → PrngReg) :
    θ_run defs (onTc (τ := τ) (main (F := Ideal))) ⟨m, fun _ => 0, g⟩
      (fun r => Pipeline.FramePost cfgs (dats m) 0
        (Pipeline.afterTail₀ cfgs (dats m) 0 (enter m) [hostOps1]) r ∧ r.2.sem = fun _ => 0) :=
  Pipeline.θ_run_frame_around (Q' := _) cfgs (dats m) (0 : Fin 1) launch0 defs₀ 𝒱₀ m g main
    (hbody := fun c => (body_obligation m c).loose) (hshare := fun c => (dats m 0 c).share_full fun _ => rfl)
    (howed := fun _ _ => rfl) (enter m) [hostOps1] hostOps1_tail hostOps1_fresh hostOps1_keep
    (hmain := hmain m) (hA := fun c w => A_eq m c w) (hΦ := fun _ _ => rfl)

/-! ### What the program leaves -/

/-- Writing back the one block of a result writes the whole array. -/
theorem block_write9 (f X : FVec Ideal S304x4 .f32) :
    (win0_9.blk t0_0).view.write (Elt Ideal) f X Finset.univ = X := by
  funext i
  have hy : (win0_9.blk t0_0).view.emb i = i := by
    funext a
    apply Fin.ext
    show 0 * S304x4.size a + 1 * (i a).val = (i a).val
    omega
  conv_lhs => rw [← hy, View.write_emb_of_mem _ _ (Finset.mem_univ _)]
  rfl

theorem block_write10 (f X : FVec Ideal S1x304 .f32) :
    (win0_10.blk t0_0).view.write (Elt Ideal) f X Finset.univ = X := by
  funext i
  have hy : (win0_10.blk t0_0).view.emb i = i := by
    funext a
    apply Fin.ext
    show 0 * S1x304.size a + 1 * (i a).val = (i a).val
    omega
  conv_lhs => rw [← hy, View.write_emb_of_mem _ _ (Finset.mem_univ _)]
  rfl

/-- The two results of the kernel, as arrays. -/
theorem result_9 (c : Dev nD) : (dats m 0 c).arrAt 9 (cfg0 (F := Ideal)).N = oboxOf (inp m c) := by
  rw [show (cfg0 (F := Ideal)).N = t0_0.val + 1 from rfl, (dats m 0 c).arrAt_succ (9 : Fin 11) t0_0, if_pos (flush0_9 _)]
  refine (block_write9 _ _).trans ?_
  exact after_9 m c t0_0

theorem result_10 (c : Dev nD) : (dats m 0 c).arrAt 10 (cfg0 (F := Ideal)).N = osOf (inp m c) := by
  rw [show (cfg0 (F := Ideal)).N = t0_0.val + 1 from rfl, (dats m 0 c).arrAt_succ (10 : Fin 11) t0_0, if_pos (flush0_10 _)]
  refine (block_write10 _ _).trans ?_
  exact after_10 m c t0_0

/-- The host's lines before the kernel write neither argument. -/
theorem before_arg0 (V : Valuation τ sig (Elt Ideal)) : before V (Proc.devRef .tc main_arg0) = V (Proc.devRef .tc main_arg0) := by
  rw [before_eq]
  unfold opsPad opsSort opsShape
  after_reads_simp

theorem before_arg1 (V : Valuation τ sig (Elt Ideal)) : before V (Proc.devRef .tc main_arg1) = V (Proc.devRef .tc main_arg1) := by
  rw [before_eq]
  unfold opsPad opsSort opsShape
  after_reads_simp

/-- What the program returns. -/
def outBox (c : Dev nD) : FVec Ideal S300x4 .f32 :=
  extractStridedSlice S300x4 ![0, 0] (oboxOf (inp m c)) slices_S304x4_S300x4_0_0

def outScore (c : Dev nD) : FVec Ideal S300 .f32 :=
  shapeCast S300 (extractStridedSlice S1x300 ![0, 0] (osOf (inp m c)) slices_S1x304_S1x300_0_0) shapeCasts_S1x300_S300

/-- The buffers after the kernel. -/
abbrev left (c : Dev nD) : Valuation τ sig (Elt Ideal) :=
  Pipeline.withArrays (cfg0 (F := Ideal)).spec c (enter m c) fun w => (dats m 0 c).arrAt w (cfg0 (F := Ideal)).N

theorem left_9 (c : Dev nD) : left m c (Proc.devRef .tc main_v30_0) = oboxOf (inp m c) :=
  (Pipeline.withArrays_arr (cfg0 (F := Ideal)).spec winFacts0.arr_inj c (enter m c) _ (9 : Fin 11)).trans (result_9 m c)

theorem left_10 (c : Dev nD) : left m c (Proc.devRef .tc main_v30_1) = osOf (inp m c) :=
  (Pipeline.withArrays_arr (cfg0 (F := Ideal)).spec winFacts0.arr_inj c (enter m c) _ (10 : Fin 11)).trans (result_10 m c)

theorem tail_eq (c : Dev nD) (b : Ref sig .tc) : Pipeline.afterTail₀ cfgs (dats m) 0 (enter m) [hostOps1] c b
    = StableHlo.after hostOps1 (left m c) (Proc.devRef .tc b) := by
  unfold Pipeline.afterTail₀
  rw [List.flatten_cons, List.flatten_nil, List.append_nil]

theorem tail_box (c : Dev nD) : Pipeline.afterTail₀ cfgs (dats m) 0 (enter m) [hostOps1] c main_v31 = outBox m c := by
  rw [tail_eq]
  unfold outBox
  rw [← left_9]
  generalize left m c = W
  after_reads_simp

theorem tail_score (c : Dev nD) : Pipeline.afterTail₀ cfgs (dats m) 0 (enter m) [hostOps1] c main_v33 = outScore m c := by
  rw [tail_eq]
  unfold outScore
  rw [← left_10]
  generalize left m c = W
  after_reads_simp
  rfl

theorem tail_arg0 (c : Dev nD) : Pipeline.afterTail₀ cfgs (dats m) 0 (enter m) [hostOps1] c main_arg0
    = m ((c.tc : Thread nD τ).loc main_arg0) := by
  rw [tail_eq]
  have h : left m c (Proc.devRef .tc main_arg0) = m ((c.tc : Thread nD τ).loc main_arg0) :=
    (Pipeline.withArrays_of_ne _ c (enter m c) _ main_arg0 (by exact (by decide : ∀ w, Pipeline.arrRef spec0 w ≠ main_arg0))).trans
      (before_arg0 (start0 m c))
  rw [← h]
  generalize left m c = W
  after_reads_simp

theorem tail_arg1 (c : Dev nD) : Pipeline.afterTail₀ cfgs (dats m) 0 (enter m) [hostOps1] c main_arg1
    = m ((c.tc : Thread nD τ).loc main_arg1) := by
  rw [tail_eq]
  have h : left m c (Proc.devRef .tc main_arg1) = m ((c.tc : Thread nD τ).loc main_arg1) :=
    (Pipeline.withArrays_of_ne _ c (enter m c) _ main_arg1 (by exact (by decide : ∀ w, Pipeline.arrRef spec0 w ≠ main_arg1))).trans
      (before_arg1 (start0 m c))
  rw [← h]
  generalize left m c = W
  after_reads_simp

/-- The whole program runs to its end, returns `outBox` and `outScore`, and leaves the arguments and
    the semaphores as they were. -/
theorem run_values (m : (ℓ : Loc nD τ sig) → Buf (Elt Ideal) ℓ) (g : Dev nD → PrngReg) :
    θ_run defs (onTc (τ := τ) (main (F := Ideal))) ⟨m, fun _ => 0, g⟩
      (fun r => (∀ c : Dev nD, r.2.mem ((c.tc : Thread nD τ).loc main_v31) = outBox m c
          ∧ r.2.mem ((c.tc : Thread nD τ).loc main_v33) = outScore m c
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0) := by
  refine (θ_run _ _ _).mono ?_ (run_main m g)
  intro r h
  refine ⟨fun c => ⟨?_, ?_, ?_, ?_⟩, h.2⟩
  · exact ((h.1 c).2 main_v31 (Pipeline.mem_restRefs_of main_v31 (by decide) (by decide))).trans (tail_box m c)
  · exact ((h.1 c).2 main_v33 (Pipeline.mem_restRefs_of main_v33 (by decide) (by decide))).trans (tail_score m c)
  · exact ((h.1 c).2 main_arg0 (Pipeline.mem_restRefs_of main_arg0 (by decide) (by decide))).trans (tail_arg0 m c)
  · exact ((h.1 c).2 main_arg1 (Pipeline.mem_restRefs_of main_arg1 (by decide) (by decide))).trans (tail_arg1 m c)

end Cert.KernelIdeal.Nms
-- ==== Proof.Nms.Same.lean ====
module

public import proofs.«01_k».proof.Proof.Nms.SameMask
public import proofs.«01_k».proof.Proof.Nms.Select
public import proofs.«01_k».proof.Proof.Nms.Ranks
public import proofs.«01_k».proof.Proof.Nms.Launch

/-!
# The two programs return the same

The reference's pick of the greatest masked scores reads the boxes of ranks nought to 299, as the kernel does.
-/

set_option maxRecDepth 16384

@[expose] public section

noncomputable section

namespace Cert.KernelIdeal.Nms

open Idealize.ShloMosaic Cert.KernelIdeal Cert.KernelIdeal.Gen
open Cert.Nms
open Classical
open Cert.ReferenceIdeal.Nms (src boxesAt scoresAt orderW overlaps sortedB_at sortedS_at firstMask alive0 over best masked
  bestS bestW bestBoxes bestS_at bestW_at bestBoxes_at kept kept_iff last last_values last_boxes)

/-- Minus one, the score of a removed box. -/
abbrev gone : EReal := Ideal.ofBits .f32 0xBF800000#32

theorem gone_neg : gone < 0 := by
  simp [gone, Ideal.ofBits, Ideal.ieee]
  rw [← EReal.coe_mul, ← EReal.coe_zero, EReal.coe_lt_coe_iff]
  norm_num

variable (b : Boxes) (s : Scores) (P : Proper b s)

/-- The scores in order. -/
abbrev inOrder : Fin 5000 → EReal := fun a => s (ValueIdx.ix1 (src s a))

theorem falling (i j : Fin 5000) (h : i ≤ j) : inOrder s j ≤ inOrder s i :=
  EReal.neg_le_neg_iff.1 (place_sorted (fun a => -s (ValueIdx.ix1 a)) h)

theorem above (P : Proper b s) (i : Fin 5000) (h : final (inpOf b s) i.val) : gone < inOrder s i := by
  have e := final_score b s P i.val h
  rw [s_at b s P] at e
  exact gone_neg.trans (thr_pos.trans e)

variable (M : Cert.ReferenceIdeal.Nms.Mask)
  (hM : ∀ j : Fin 5000, M (ValueIdx.ix1 j) = 1#1 ↔ greedy (alive0 (maskOf s)) (over (tableOf b s)) j.val)

/-- The box of rank `i`. -/
abbrev boxOf (i : Fin 300) : Fin 5000 := place (maskedKey (final (inpOf b s)) 5000 (inOrder s) gone) (i.castLE (by decide))

theorem rank_box (P : Proper b s) (i : Fin 300) : rank (final (inpOf b s)) (boxOf b s i).val = i.val :=
  rank_place (final (inpOf b s)) 5000 (by decide) (final_real b s P) (inOrder s) gone (falling s) (above b s P) (i.castLE (by decide))

theorem rank_box_only (P : Proper b s) (i : Fin 300) (j : ℕ) (h : rank (final (inpOf b s)) j = i.val) : j = (boxOf b s i).val :=
  rank_only (final (inpOf b s)) 5000 (by decide) (final_real b s P) (inOrder s) gone (falling s) (above b s P) (i.castLE (by decide)) j h

attribute [local irreducible] cnt rank

/-- The same among the kernel's places. -/
theorem rank_at (P : Proper b s) (i : Fin 300) :
    rank (final (inpOf b s)) ((boxOf b s i).castLE long).val = (i.castLE (show 300 ≤ 304 by decide)).val := by
  rw [Fin.val_castLE, Fin.val_castLE]
  exact rank_box b s P i

theorem rank_at_only (P : Proper b s) (i : Fin 300) (j : Fin 5120)
    (h : rank (final (inpOf b s)) j.val = (i.castLE (show 300 ≤ 304 by decide)).val) : j = (boxOf b s i).castLE long := by
  rw [Fin.val_castLE] at h
  apply Fin.ext
  rw [Fin.val_castLE]
  exact rank_box_only b s P i j.val h

theorem rank_small (P : Proper b s) (k : ℕ) (hk : k < 5120) : rank (final (inpOf b s)) k < 2 ^ 31 := by
  by_cases h : k < 5000
  · have := rank_lt (final (inpOf b s)) 5000 (by decide) (final_real b s P) h
    omega
  · have := rank_back (final (inpOf b s)) 5000 (by decide) (final_real b s P) (a := k) (by omega)
    omega

include P hM

theorem masked_at (a : Fin 5000) : masked M (scoresAt s (orderW s)) (ValueIdx.ix1 a)
    = if final (inpOf b s) a.val then inOrder s a else gone :=
  (pick_bit (final (inpOf b s) a.val) (M (ValueIdx.ix1 a)) ((hM a).trans (same_mask b s P a).symm) _ _).trans
    (by rw [sortedS_at]; rfl)

/-- The reference's pick is the box of that rank. -/
theorem best_eq : best (masked M (scoresAt s (orderW s))) = place (maskedKey (final (inpOf b s)) 5000 (inOrder s) gone) :=
  congrArg place (funext fun a => congrArg Neg.neg (masked_at b s P M hM a))

theorem values_at (i : Fin 300) : bestS (masked M (scoresAt s (orderW s))) (ValueIdx.ix1 i)
    = if final (inpOf b s) (boxOf b s i).val then inOrder s (boxOf b s i) else gone := by
  rw [bestS_at, masked_at b s P M hM, best_eq b s P M hM]

theorem boxes_at (i : Fin 300) (y : Fin 4) : bestBoxes (boxesAt b (orderW s)) (bestW (masked M (scoresAt s (orderW s)))) (ValueIdx.ix2 i y)
    = b (ValueIdx.ix2 (src s (boxOf b s i)) y) := by
  have e := bestW_at (masked M (scoresAt s (orderW s))) i
  rw [best_eq b s P M hM] at e
  rw [bestBoxes_at _ _ i (boxOf b s i) e, sortedB_at]

omit hM

/-- What the kernel returns of the box of a rank. -/
theorem kernel_score (i : Fin 300) : osOf (inpOf b s) (ValueIdx.ix2 0 (i.castLE (by decide)))
    = if final (inpOf b s) (boxOf b s i).val then inOrder s (boxOf b s i) else gone := by
  unfold osOf destRow
  refine (osP_at (rank (final (inpOf b s))) (rank_small b s P) (i.castLE (by decide)) ((boxOf b s i).castLE long) (rank_at b s P i)
    (rank_at_only b s P i) (final (inpOf b s)) (inpOf b s).s 0).trans ?_
  rw [Fin.val_castLE, s_at b s P]

theorem kernel_box (i : Fin 300) (y : Fin 4) : oboxOf (inpOf b s) (ValueIdx.ix2 (i.castLE (by decide)) y)
    = b (ValueIdx.ix2 (src s (boxOf b s i)) y) := by
  unfold oboxOf destRow
  refine (oboxP_at (rank (final (inpOf b s))) (rank_small b s P) (i.castLE (by decide)) ((boxOf b s i).castLE long) (rank_at b s P i)
    (rank_at_only b s P i) (inpOf b s).x1 (inpOf b s).y1 (inpOf b s).x2 (inpOf b s).y2 y).trans ?_
  rw [Fin.val_castLE, x1_at b s P, y1_at b s P, x2_at b s P, y2_at b s P]
  match y with
  | 0 => rfl
  | 1 => rfl
  | 2 => rfl
  | 3 => rfl

end Cert.KernelIdeal.Nms

end

end
-- ==== Proof.Nms.Agree.lean ====
module

public import proofs.«01_k».proof.Proof.Nms.Same
public import proofs.«01_k».proof.Pre_proper_boxes

/-!
# The results agree under the precondition

The precondition says of each box and score what the comparison of the two programs needs.
-/

set_option maxRecDepth 16384

@[expose] public section

noncomputable section

namespace Cert.KernelIdeal.Nms

open Idealize.ShloMosaic Cert.KernelIdeal Cert.KernelIdeal.Gen
open Cert.Nms
open Cert.ReferenceIdeal.Nms (column_at bit_true kept_iff last_values last_boxes)

/-- The shapes the precondition's operations need. -/
theorem preFacts : Cert.Pre_proper_boxes.Facts where
  bcast_S_S5000x4 := by decide
  slices_S5000x4_S5000x1_0_2 := by decide
  shapeCasts_S5000x1_S5000 := by decide
  slices_S5000x4_S5000x1_0_0 := by decide
  bcast_S_S5000 := by decide
  slices_S5000x4_S5000x1_0_3 := by decide
  slices_S5000x4_S5000x1_0_1 := by decide

/-- A number between the bounds is real. -/
theorem real_between {x : EReal} (h1 : low ≤ x) (h2 : x ≤ high) : ∃ r : ℝ, x = r ∧ -(13234890 * 2 ^ 76) ≤ r := by
  rw [low_eq] at h1
  rw [high_eq] at h2
  induction x using EReal.rec with
  | bot => exact absurd h1 (not_le.2 (EReal.bot_lt_coe _))
  | top => exact absurd h2 (not_le.2 (EReal.coe_lt_top _))
  | coe r => exact ⟨r, rfl, EReal.coe_le_coe_iff.1 h1⟩

/-- A real side that is not too short. -/
theorem side_real {x y : EReal} {p r : ℝ} (hx : x = p) (hy : y = r) (h : side ≤ y - x) : 2⁻¹ ^ 14 ≤ r - p := by
  rw [hx, hy, side_eq, ← EReal.coe_sub] at h
  exact EReal.coe_le_coe_iff.1 h

variable (b : Boxes) (s : Scores)

/-- The precondition gives proper boxes. -/
theorem proper_of [Cert.Pre_proper_boxes.Facts]
    (h : (Cert.Pre_proper_boxes.fn (F := Ideal) b s).1 = (fun _ => 1#1)
      ∧ (Cert.Pre_proper_boxes.fn (F := Ideal) b s).2.1 = (fun _ => 1#1)
      ∧ (Cert.Pre_proper_boxes.fn (F := Ideal) b s).2.2.1 = (fun _ => 1#1)
      ∧ (Cert.Pre_proper_boxes.fn (F := Ideal) b s).2.2.2.1 = (fun _ => 1#1)
      ∧ (Cert.Pre_proper_boxes.fn (F := Ideal) b s).2.2.2.2 = (fun _ => 1#1)) : Proper b s where
  box i := by
    have hr : ∀ y : Fin 4, ∃ r : ℝ, b (ValueIdx.ix2 i y) = r ∧ -(13234890 * 2 ^ 76) ≤ r := fun y =>
      real_between ((bit_true _).1 (congrFun h.1 (ValueIdx.ix2 i y))) ((bit_true _).1 (congrFun h.2.1 (ValueIdx.ix2 i y)))
    obtain ⟨p, hp, lp⟩ := hr 0
    obtain ⟨q, hq, -⟩ := hr 1
    obtain ⟨r, hr', -⟩ := hr 2
    obtain ⟨t, ht, -⟩ := hr 3
    have e := fun (o : Fin 2 → ℕ) (hs : S5000x4.Slices o S5000x1) hc (y : Fin 4) h0 h1 => column_at b hs hc y h0 h1 i
    have w : side ≤ b (ValueIdx.ix2 i 2) - b (ValueIdx.ix2 i 0) := by
      rw [← e ![0, 2] Cert.Pre_proper_boxes.Facts.slices_S5000x4_S5000x1_0_2 Cert.Pre_proper_boxes.Facts.shapeCasts_S5000x1_S5000 2 rfl rfl,
        ← e ![0, 0] Cert.Pre_proper_boxes.Facts.slices_S5000x4_S5000x1_0_0 Cert.Pre_proper_boxes.Facts.shapeCasts_S5000x1_S5000 0 rfl rfl]
      exact (bit_true _).1 (congrFun h.2.2.1 (ValueIdx.ix1 i))
    have t' : side ≤ b (ValueIdx.ix2 i 3) - b (ValueIdx.ix2 i 1) := by
      rw [← e ![0, 3] Cert.Pre_proper_boxes.Facts.slices_S5000x4_S5000x1_0_3 Cert.Pre_proper_boxes.Facts.shapeCasts_S5000x1_S5000 3 rfl rfl,
        ← e ![0, 1] Cert.Pre_proper_boxes.Facts.slices_S5000x4_S5000x1_0_1 Cert.Pre_proper_boxes.Facts.shapeCasts_S5000x1_S5000 1 rfl rfl]
      exact (bit_true _).1 (congrFun h.2.2.2.1 (ValueIdx.ix1 i))
    exact ⟨p, q, r, t, hp, hq, hr', ht, lp, side_real hp hr' w, side_real hq ht t'⟩
  score i := (bit_true _).1 (congrFun h.2.2.2.2 (ValueIdx.ix1 i))

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)
  (hb : m' ((c.tc : Thread Cert.ReferenceIdeal.nD Cert.ReferenceIdeal.τ).loc Cert.ReferenceIdeal.main_arg0) = m ((c.tc : Thread nD τ).loc main_arg0))
  (hs : m' ((c.tc : Thread Cert.ReferenceIdeal.nD Cert.ReferenceIdeal.τ).loc Cert.ReferenceIdeal.main_arg1) = m ((c.tc : Thread nD τ).loc main_arg1))
  (P : Proper (m ((c.tc : Thread nD τ).loc main_arg0)) (m ((c.tc : Thread nD τ).loc main_arg1)))

include hb hs P

/-- The boxes returned agree. -/
theorem agree_boxes : Cert.ReferenceIdeal.Nms.last m' c (Proc.devRef .tc Cert.ReferenceIdeal.main_v74) = outBox m c := by
  have hM := kept_iff m' c
  rw [last_boxes]
  generalize Cert.ReferenceIdeal.Nms.kept m' c = M at hM
  unfold Cert.ReferenceIdeal.Nms.sortedB Cert.ReferenceIdeal.Nms.sortedS Cert.ReferenceIdeal.Nms.argB Cert.ReferenceIdeal.Nms.argS at hM ⊢
  rw [hb, hs] at hM ⊢
  funext i
  obtain ⟨r, y, rfl⟩ : ∃ (r : Fin 300) (y : Fin 4), i = ValueIdx.ix2 r y := ⟨_, _, ValueIdx.eq_ix2 i⟩
  refine (boxes_at _ _ P M hM r y).trans ((kernel_box _ _ P r y).symm.trans ?_)
  unfold outBox extractStridedSlice
  refine congrArg (oboxOf (inp m c)) (funext fun a => Fin.ext ?_)
  match a with
  | ⟨0, _⟩ => show r.val = 0 + r.val; omega
  | ⟨1, _⟩ => show y.val = 0 + y.val; omega

/-- The scores returned agree. -/
theorem agree_scores : Cert.ReferenceIdeal.Nms.last m' c (Proc.devRef .tc Cert.ReferenceIdeal.main_values) = outScore m c := by
  have hM := kept_iff m' c
  rw [last_values]
  generalize Cert.ReferenceIdeal.Nms.kept m' c = M at hM
  unfold Cert.ReferenceIdeal.Nms.sortedB Cert.ReferenceIdeal.Nms.sortedS Cert.ReferenceIdeal.Nms.argB Cert.ReferenceIdeal.Nms.argS at hM
  unfold Cert.ReferenceIdeal.Nms.sortedS Cert.ReferenceIdeal.Nms.argS
  rw [hb, hs] at hM
  rw [hs]
  funext i
  obtain ⟨r, rfl⟩ : ∃ r : Fin 300, i = ValueIdx.ix1 r := ⟨_, ValueIdx.eq_ix1 i⟩
  refine (values_at _ _ P M hM r).trans ((kernel_score _ _ P r).symm.trans ?_)
  unfold outScore
  refine Eq.symm ((shapeCast_apply _ shapeCasts_S1x300_S300 (ValueIdx.ix1 r) (ValueIdx.ix2 0 r) ?_).trans ?_)
  · refine (Shape.rowMajor_val_two _).trans (Eq.trans ?_ (Shape.rowMajor_val_one _).symm)
    show 0 * 300 + r.val = r.val
    omega
  · unfold extractStridedSlice
    refine congrArg (osOf (inp m c)) (funext fun a => Fin.ext ?_)
    match a with
    | ⟨0, _⟩ => rfl
    | ⟨1, _⟩ => show 0 + r.val = r.val; omega

end Cert.KernelIdeal.Nms

end

end
-- ==== Proof.lean ====
module

public import proofs.«01_k».proof.Proof.Nms.Agree
public import proofs.«01_k».proof.Proof.Nms.Launch
public import proofs.«01_k».proof.Proof.Nms.Ref
public import proofs.«01_k».proof.Defs

/-!
The claims put together from the kernel's run and the reference's run.
-/

@[expose] public section

noncomputable section

namespace Cert.Proof

open Idealize.ShloMosaic Idealize.SL.Sem
open Cert.KernelIdeal.Nms (preFacts proper_of agree_boxes agree_scores outBox outScore)

/-- The kernel ends with its arguments kept and no counter raised. -/
theorem kernel_quiescent : Cert.quiescent_KernelIdeal (hKernelIdeal := Cert.KernelIdeal.Gen.facts) := fun m g _ =>
  (θ_run _ _ _).mono (fun _ hr => ⟨fun c => (hr.1 c).2.2, hr.2⟩) (Cert.KernelIdeal.Nms.run_values m g)

/-- So does the reference. -/
theorem reference_quiescent : Cert.quiescent_ReferenceIdeal (hReferenceIdeal := Cert.ReferenceIdeal.Gen.facts) := fun m g _ =>
  (θ_run _ _ _).mono (fun _ hr => ⟨fun c => (hr.1 c).2.2, hr.2⟩) (Cert.ReferenceIdeal.Nms.run_values m g)

/-- On proper boxes both return the kernel's results. -/
theorem same_results : Cert.algebraic_KernelIdeal_ReferenceIdeal_pre_proper_boxes (hKernelIdeal := Cert.KernelIdeal.Gen.facts)
    (hReferenceIdeal := Cert.ReferenceIdeal.Gen.facts) (hPre_proper_boxes := preFacts) := fun m g m' g' hp ha => by
  have P := fun c => @proper_of _ _ preFacts (hp c)
  refine ⟨fun c => outBox m c, fun c => outScore m c, ?_, ?_⟩
  · exact (θ_run _ _ _).mono (fun _ hr c => hr.1 c) (Cert.KernelIdeal.Nms.run_values m g)
  · refine (θ_run _ _ _).mono (fun _ hr c => ?_) (Cert.ReferenceIdeal.Nms.run_values m' g')
    obtain ⟨h1, h2, h3⟩ := hr.1 c
    exact ⟨h1.trans (agree_boxes m m' c (ha c).1 (ha c).2 (P c)), h2.trans (agree_scores m m' c (ha c).1 (ha c).2 (P c)), h3⟩

theorem claim : Cert.Claim :=
  ⟨Cert.KernelIdeal.Gen.facts, Cert.ReferenceIdeal.Gen.facts, preFacts, kernel_quiescent,
    fun m g _ => kernel_quiescent m g trivial, reference_quiescent,
    fun m g _ => reference_quiescent m g trivial, same_results⟩

end Cert.Proof

end
